-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3x512x512 : Shape := ⟨4, ![1, 3, 512, 512]⟩
abbrev S128x3 : Shape := ⟨2, ![128, 3]⟩
abbrev S3x2048x128 : Shape := ⟨3, ![3, 2048, 128]⟩
abbrev S1x1 : Shape := ⟨2, ![1, 1]⟩
abbrev S4096x128 : Shape := ⟨2, ![4096, 128]⟩
abbrev S1x2048x128 : Shape := ⟨3, ![1, 2048, 128]⟩
abbrev S2048x128 : Shape := ⟨2, ![2048, 128]⟩
abbrev S4096x1 : Shape := ⟨2, ![4096, 1]⟩
abbrev S1x128 : Shape := ⟨2, ![1, 128]⟩
abbrev S4095x128 : Shape := ⟨2, ![4095, 128]⟩
abbrev S4094x128 : Shape := ⟨2, ![4094, 128]⟩
abbrev S2x128 : Shape := ⟨2, ![2, 128]⟩
abbrev S4092x128 : Shape := ⟨2, ![4092, 128]⟩
abbrev S4x128 : Shape := ⟨2, ![4, 128]⟩
abbrev S256x2x8x128 : Shape := ⟨4, ![256, 2, 8, 128]⟩
abbrev S256x1x8x128 : Shape := ⟨4, ![256, 1, 8, 128]⟩
abbrev S256x8x128 : Shape := ⟨3, ![256, 8, 128]⟩
abbrev S256x1x1 : Shape := ⟨3, ![256, 1, 1]⟩
abbrev S128x2x16x128 : Shape := ⟨4, ![128, 2, 16, 128]⟩
abbrev S128x1x16x128 : Shape := ⟨4, ![128, 1, 16, 128]⟩
abbrev S128x16x128 : Shape := ⟨3, ![128, 16, 128]⟩
abbrev S128x1x1 : Shape := ⟨3, ![128, 1, 1]⟩
abbrev S64x2x32x128 : Shape := ⟨4, ![64, 2, 32, 128]⟩
abbrev S64x1x32x128 : Shape := ⟨4, ![64, 1, 32, 128]⟩
abbrev S64x32x128 : Shape := ⟨3, ![64, 32, 128]⟩
abbrev S64x1x1 : Shape := ⟨3, ![64, 1, 1]⟩
abbrev S32x2x64x128 : Shape := ⟨4, ![32, 2, 64, 128]⟩
abbrev S32x1x64x128 : Shape := ⟨4, ![32, 1, 64, 128]⟩
abbrev S32x64x128 : Shape := ⟨3, ![32, 64, 128]⟩
abbrev S32x1x1 : Shape := ⟨3, ![32, 1, 1]⟩
abbrev S16x2x128x128 : Shape := ⟨4, ![16, 2, 128, 128]⟩
abbrev S16x1x128x128 : Shape := ⟨4, ![16, 1, 128, 128]⟩
abbrev S16x128x128 : Shape := ⟨3, ![16, 128, 128]⟩
abbrev S16x1x1 : Shape := ⟨3, ![16, 1, 1]⟩
abbrev S8x2x256x128 : Shape := ⟨4, ![8, 2, 256, 128]⟩
abbrev S8x1x256x128 : Shape := ⟨4, ![8, 1, 256, 128]⟩
abbrev S8x256x128 : Shape := ⟨3, ![8, 256, 128]⟩
abbrev S8x1x1 : Shape := ⟨3, ![8, 1, 1]⟩
abbrev S4x2x512x128 : Shape := ⟨4, ![4, 2, 512, 128]⟩
abbrev S4x1x512x128 : Shape := ⟨4, ![4, 1, 512, 128]⟩
abbrev S4x512x128 : Shape := ⟨3, ![4, 512, 128]⟩
abbrev S4x1x1 : Shape := ⟨3, ![4, 1, 1]⟩
abbrev S2x2x1024x128 : Shape := ⟨4, ![2, 2, 1024, 128]⟩
abbrev S2x1x1024x128 : Shape := ⟨4, ![2, 1, 1024, 128]⟩
abbrev S2x1024x128 : Shape := ⟨3, ![2, 1024, 128]⟩
abbrev S1x1x128 : Shape := ⟨3, ![1, 1, 128]⟩
abbrev S4096x127 : Shape := ⟨2, ![4096, 127]⟩
abbrev S4096x126 : Shape := ⟨2, ![4096, 126]⟩
abbrev S4096x2 : Shape := ⟨2, ![4096, 2]⟩
abbrev S4096x124 : Shape := ⟨2, ![4096, 124]⟩
abbrev S4096x4 : Shape := ⟨2, ![4096, 4]⟩
abbrev S4096x120 : Shape := ⟨2, ![4096, 120]⟩
abbrev S4096x8 : Shape := ⟨2, ![4096, 8]⟩
abbrev S4096x112 : Shape := ⟨2, ![4096, 112]⟩
abbrev S4096x16 : Shape := ⟨2, ![4096, 16]⟩
abbrev S4096x96 : Shape := ⟨2, ![4096, 96]⟩
abbrev S4096x32 : Shape := ⟨2, ![4096, 32]⟩
abbrev S4096x64 : Shape := ⟨2, ![4096, 64]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 3
  | .smem => 2
  | _ => 0

abbrev bufTy : (tb : Table) → Fin (tcTables nBuf tb) → BufTy
  | .hbm, ⟨0, _⟩ => ⟨S1x3x512x512, .f32⟩
  | .hbm, ⟨1, _⟩ => ⟨S1x3x512x512, .f32⟩
  | .hbm, ⟨2, _⟩ => ⟨S128x3, .f32⟩
  | .hbm, ⟨3, _⟩ => ⟨S3x2048x128, .f32⟩
  | .hbm, ⟨4, _⟩ => ⟨S3x2048x128, .f32⟩
  | .hbm, ⟨5, _⟩ => ⟨S1x1, .f32⟩
  | .hbm, ⟨6, _⟩ => ⟨S_, .f32⟩
  | .local _ .vmem, ⟨0, _⟩ => ⟨S3x2048x128, .f32⟩
  | .local _ .vmem, ⟨1, _⟩ => ⟨S3x2048x128, .f32⟩
  | .local _ .vmem, ⟨2, _⟩ => ⟨S4096x128, .f32⟩
  | .local _ .smem, ⟨0, _⟩ => ⟨S128x3, .f32⟩
  | .local _ .smem, ⟨1, _⟩ => ⟨S1x1, .f32⟩
  | _, _ => ⟨S1x3x512x512, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![128], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v2 : Index := Scalar.indexCast arg0
  let c1 : Index := 1#32
  ![v2.toNat, 1]
def k0_off3 (i : grid0.Coords) : Fin 2 → Nat :=
  let arg0 : BitVec 32 := BitVec.ofNat 32 (i 0).val
  let v4 : Index := Scalar.indexCast arg0
  let c2 : Index := 2#32
  ![v4.toNat, 2]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S128x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x3x512x512 : Shape := ⟨4, ![1, 3, 512, 512]⟩
abbrev S128x3 : Shape := ⟨2, ![128, 3]⟩
abbrev S3x512x512 : Shape := ⟨3, ![3, 512, 512]⟩
abbrev S512x512x3 : Shape := ⟨3, ![512, 512, 3]⟩
abbrev S262144x3 : Shape := ⟨2, ![262144, 3]⟩
abbrev S_ : Shape := ⟨0, ![]⟩
abbrev S128 : Shape := ⟨1, ![128]⟩
abbrev S128x1 : Shape := ⟨2, ![128, 1]⟩
abbrev S3x262144 : Shape := ⟨2, ![3, 262144]⟩
abbrev S128x262144 : Shape := ⟨2, ![128, 262144]⟩

abbrev nBuf : Space → Nat
  | .hbm => 32
  | .vmem => 0
  | .smem => 0
  | _ => 0

abbrev bufTy : (tb : Table) → Fin (tcTables nBuf tb) → BufTy
  | .hbm, ⟨0, _⟩ => ⟨S1x3x512x512, .f32⟩
  | .hbm, ⟨1, _⟩ => ⟨S1x3x512x512, .f32⟩
  | .hbm, ⟨2, _⟩ => ⟨S128x3, .f32⟩
  | .hbm, ⟨3, _⟩ => ⟨S3x512x512, .f32⟩
  | .hbm, ⟨4, _⟩ => ⟨S512x512x3, .f32⟩
  | .hbm, ⟨5, _⟩ => ⟨S262144x3, .f32⟩
  | .hbm, ⟨6, _⟩ => ⟨S3x512x512, .f32⟩
  | .hbm, ⟨7, _⟩ => ⟨S512x512x3, .f32⟩
  | .hbm, ⟨8, _⟩ => ⟨S262144x3, .f32⟩
  | .hbm, ⟨9, _⟩ => ⟨S128x3, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x3, .f32⟩
  | .hbm, ⟨19, _⟩ => ⟨S128x3, .f32⟩
  | .hbm, ⟨20, _⟩ => ⟨S3x262144, .f32⟩
  | .hbm, ⟨21, _⟩ => ⟨S128x262144, .f32⟩
  | .hbm, ⟨22, _⟩ => ⟨S3x262144, .f32⟩
  | .hbm, ⟨23, _⟩ => ⟨S128x262144, .f32⟩
  | .hbm, ⟨24, _⟩ => ⟨S128x262144, .f32⟩
  | .hbm, ⟨25, _⟩ => ⟨S128x262144, .f32⟩
  | .hbm, ⟨26, _⟩ => ⟨S128x262144, .f32⟩
  | .hbm, ⟨27, _⟩ => ⟨S128x262144, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S1x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Proof.Own.Stages.lean ====
/- The kernel's body as three pieces: the projection into scratch, the 171 compare-exchange stages of the sort (a LIST
   of functions on the scratch), and the sum. -/
module

public import proofs.«01_k».proof.Proof.Gen.KernelIdeal.Frame
public import proofs.«01_k».proof.Proof.Gen.KernelIdeal.Skeleton

@[expose] public section

noncomputable section

namespace Cert.KernelIdeal.Own

open Idealize.ShloMosaic Idealize.SL.Sem Cert.KernelIdeal Cert.KernelIdeal.Gen

variable {F : FTy → Type} [FloatOps F]

/-- The scratch's contents. -/
abbrev Scr (F : FTy → Type) : Type := FVec F S4096x128 .f32

/-! ## Masks -/

/-- Bit `b` of the row number is clear. -/
def rowBit (b : BitVec 32) : IVec S4096x1 1 :=
  cmpi .eq (andi (shrsi (iota .tc S4096x1 32 [0] iota_S4096x1_d0_w32) (broadcast S4096x1 b)) (broadcast S4096x1 1#32)) (broadcast S4096x1 0#32)

/-- Bit `b` of the column number is clear. -/
def colBit (b : BitVec 32) : IVec S1x128 1 :=
  cmpi .eq (andi (shrsi (iota .tc S1x128 32 [1] iota_S1x128_d1_w32) (broadcast S1x128 b)) (broadcast S1x128 1#32)) (broadcast S1x128 0#32)

/-- A mask of rows over the whole scratch. -/
def spreadRow (m : IVec S4096x1 1) : IVec S4096x128 1 :=
  broadcastTo S4096x128 (shapeCast S4096x1 m shapeCasts_S4096x1_S4096x1) broadcasts_S4096x1_S4096x128

/-- A mask of columns over the whole scratch. -/
def spreadCol (m : IVec S1x128 1) : IVec S4096x128 1 :=
  broadcastTo S4096x128 (shapeCast S1x128 m shapeCasts_S1x128_S1x128) broadcasts_S1x128_S4096x128

/-- Where round `k` sorts upwards (everywhere in the last round). -/
def ascOf (k : ℕ) : Option (IVec S4096x128 1) :=
  if k ≤ 10 then some (spreadRow (rowBit (BitVec.ofNat 32 k)))
  else if k ≤ 17 then some (spreadCol (colBit (BitVec.ofNat 32 (k - 11))))
  else none

/-! ## The stages -/

/-- Each element against its partner: the lower one of a pair keeps the smaller where the round goes upwards. -/
def exchange (asc : Option (IVec S4096x128 1)) (low : IVec S4096x128 1) (a p : Scr F) : Scr F :=
  match asc with
  | none => select low (minimumf a p) (maximumf a p)
  | some u => select low (select u (minimumf a p) (maximumf a p)) (select u (maximumf a p) (minimumf a p))

/-- A stage whose partners are `s` rows apart, `s` below the tile's height. -/
def rowStage (s : ℕ) (b : BitVec 32) (h1 : S4096x128.Slices ![s, 0] ⟨2, ![4096 - s, 128]⟩) (h2 : S4096x128.Slices ![0, 0] ⟨2, ![s, 128]⟩)
    (h3 : Shape.Concatenates [⟨2, ![4096 - s, 128]⟩, ⟨2, ![s, 128]⟩] S4096x128 0)
    (h4 : S4096x128.Slices ![4096 - s, 0] ⟨2, ![s, 128]⟩) (h5 : S4096x128.Slices ![0, 0] ⟨2, ![4096 - s, 128]⟩)
    (h6 : Shape.Concatenates [⟨2, ![s, 128]⟩, ⟨2, ![4096 - s, 128]⟩] S4096x128 0)
    (asc : Option (IVec S4096x128 1)) (a : Scr F) : Scr F :=
  exchange asc (spreadRow (rowBit b)) a
    (select (spreadRow (rowBit b))
      (concatenate S4096x128 0 [⟨⟨2, ![4096 - s, 128]⟩, extractStridedSlice ⟨2, ![4096 - s, 128]⟩ ![s, 0] a h1⟩,
        ⟨⟨2, ![s, 128]⟩, extractStridedSlice ⟨2, ![s, 128]⟩ ![0, 0] a h2⟩] h3)
      (concatenate S4096x128 0 [⟨⟨2, ![s, 128]⟩, extractStridedSlice ⟨2, ![s, 128]⟩ ![4096 - s, 0] a h4⟩,
        ⟨⟨2, ![4096 - s, 128]⟩, extractStridedSlice ⟨2, ![4096 - s, 128]⟩ ![0, 0] a h5⟩] h6))

/-- A stage whose partners are `s` columns apart. -/
def colStage (s : ℕ) (b : BitVec 32) (h1 : S4096x128.Slices ![0, s] ⟨2, ![4096, 128 - s]⟩) (h2 : S4096x128.Slices ![0, 0] ⟨2, ![4096, s]⟩)
    (h3 : Shape.Concatenates [⟨2, ![4096, 128 - s]⟩, ⟨2, ![4096, s]⟩] S4096x128 1)
    (h4 : S4096x128.Slices ![0, 128 - s] ⟨2, ![4096, s]⟩) (h5 : S4096x128.Slices ![0, 0] ⟨2, ![4096, 128 - s]⟩)
    (h6 : Shape.Concatenates [⟨2, ![4096, s]⟩, ⟨2, ![4096, 128 - s]⟩] S4096x128 1)
    (asc : Option (IVec S4096x128 1)) (a : Scr F) : Scr F :=
  exchange asc (spreadCol (colBit b)) a
    (select (spreadCol (colBit b))
      (concatenate S4096x128 1 [⟨⟨2, ![4096, 128 - s]⟩, extractStridedSlice ⟨2, ![4096, 128 - s]⟩ ![0, s] a h1⟩,
        ⟨⟨2, ![4096, s]⟩, extractStridedSlice ⟨2, ![4096, s]⟩ ![0, 0] a h2⟩] h3)
      (concatenate S4096x128 1 [⟨⟨2, ![4096, s]⟩, extractStridedSlice ⟨2, ![4096, s]⟩ ![0, 128 - s] a h4⟩,
        ⟨⟨2, ![4096, 128 - s]⟩, extractStridedSlice ⟨2, ![4096, 128 - s]⟩ ![0, 0] a h5⟩] h6))

/-- Where a stage in blocks of `2 s` rows goes upwards, over its `m` pairs of blocks. -/
def blockAsc (m s k j : ℕ) (h1 : Shape.Iotas ⟨3, ![m, 1, 1]⟩ .tc 32 [0]) (h2 : Shape.Broadcasts ⟨3, ![m, 1, 1]⟩ ⟨3, ![m, s, 128]⟩)
    (h3 : Shape.Broadcasts S1x1x128 ⟨3, ![m, s, 128]⟩) : Option (IVec ⟨3, ![m, s, 128]⟩ 1) :=
  if k ≤ 10 then some (broadcastTo ⟨3, ![m, s, 128]⟩ (shapeCast ⟨3, ![m, 1, 1]⟩ (cmpi .eq (andi (shrsi (iota .tc ⟨3, ![m, 1, 1]⟩ 32 [0] h1)
    (broadcast ⟨3, ![m, 1, 1]⟩ (BitVec.ofNat 32 (k - j - 1)))) (broadcast ⟨3, ![m, 1, 1]⟩ 1#32)) (broadcast ⟨3, ![m, 1, 1]⟩ 0#32)) rfl) h2)
  else if k ≤ 17 then some (broadcastTo ⟨3, ![m, s, 128]⟩ (shapeCast S1x1x128
    (shapeCast S1x1x128 (colBit (BitVec.ofNat 32 (k - 11))) shapeCasts_S1x128_S1x1x128) shapeCasts_S1x1x128_S1x1x128) h3)
  else none

/-- What a block stage writes into the lower (`x` the smaller, `y` the larger) or, its arguments exchanged, the upper half. -/
def blockPick {s : Shape} (asc : Option (IVec s 1)) (x y : FVec F s .f32) : FVec F s .f32 :=
  match asc with
  | none => x
  | some u => select u x y

/-- A stage whose partners are `s` rows apart, `s` whole tiles: `m` pairs of blocks of `s` rows. -/
def blockStage (m s : ℕ) (c1 : S4096x128.ShapeCasts ⟨4, ![m, 2, s, 128]⟩) (s0 : Shape.Slices ⟨4, ![m, 2, s, 128]⟩ ![0, 0, 0, 0] ⟨4, ![m, 1, s, 128]⟩)
    (s1 : Shape.Slices ⟨4, ![m, 2, s, 128]⟩ ![0, 1, 0, 0] ⟨4, ![m, 1, s, 128]⟩)
    (c2 : Shape.ShapeCasts ⟨4, ![m, 1, s, 128]⟩ ⟨3, ![m, s, 128]⟩) (c3 : Shape.ShapeCasts ⟨3, ![m, s, 128]⟩ ⟨4, ![m, 1, s, 128]⟩)
    (cc : Shape.Concatenates [⟨4, ![m, 1, s, 128]⟩, ⟨4, ![m, 1, s, 128]⟩] ⟨4, ![m, 2, s, 128]⟩ 1)
    (c4 : Shape.ShapeCasts ⟨4, ![m, 2, s, 128]⟩ S4096x128)
    (asc : Option (IVec ⟨3, ![m, s, 128]⟩ 1)) (a : Scr F) : Scr F :=
  let v : FVec F ⟨4, ![m, 2, s, 128]⟩ .f32 := shapeCast ⟨4, ![m, 2, s, 128]⟩ a c1
  let lo : FVec F ⟨3, ![m, s, 128]⟩ .f32 := shapeCast ⟨3, ![m, s, 128]⟩ (extractStridedSlice ⟨4, ![m, 1, s, 128]⟩ ![0, 0, 0, 0] v s0) c2
  let hi : FVec F ⟨3, ![m, s, 128]⟩ .f32 := shapeCast ⟨3, ![m, s, 128]⟩ (extractStridedSlice ⟨4, ![m, 1, s, 128]⟩ ![0, 1, 0, 0] v s1) c2
  let nl := blockPick asc (minimumf lo hi) (maximumf lo hi)
  let nh := blockPick asc (maximumf lo hi) (minimumf lo hi)
  shapeCast S4096x128 (concatenate ⟨4, ![m, 2, s, 128]⟩ 1 [⟨⟨4, ![m, 1, s, 128]⟩, shapeCast ⟨4, ![m, 1, s, 128]⟩ nl c3⟩,
    ⟨⟨4, ![m, 1, s, 128]⟩, shapeCast ⟨4, ![m, 1, s, 128]⟩ nh c3⟩] cc) c4

/-- Round `k`'s stage at distance `2 ^ j`. -/
def stageFn (k j : ℕ) (a : Scr F) : Scr F :=
  match j with
  | 0 => rowStage 1 0#32 (by decide) (by decide) (by decide) (by decide) (by decide) (by decide) (ascOf k) a
  | 1 => rowStage 2 1#32 (by decide) (by decide) (by decide) (by decide) (by decide) (by decide) (ascOf k) a
  | 2 => rowStage 4 2#32 (by decide) (by decide) (by decide) (by decide) (by decide) (by decide) (ascOf k) a
  | 3 => blockStage 256 8 (by decide) (by decide) (by decide) (by decide) (by decide) (by decide) (by decide) (blockAsc 256 8 k 3 (by decide) (by decide) (by decide)) a
  | 4 => blockStage 128 16 (by decide) (by decide) (by decide) (by decide) (by decide) (by decide) (by decide) (blockAsc 128 16 k 4 (by decide) (by decide) (by decide)) a
  | 5 => blockStage 64 32 (by decide) (by decide) (by decide) (by decide) (by decide) (by decide) (by decide) (blockAsc 64 32 k 5 (by decide) (by decide) (by decide)) a
  | 6 => blockStage 32 64 (by decide) (by decide) (by decide) (by decide) (by decide) (by decide) (by decide) (blockAsc 32 64 k 6 (by decide) (by decide) (by decide)) a
  | 7 => blockStage 16 128 (by decide) (by decide) (by decide) (by decide) (by decide) (by decide) (by decide) (blockAsc 16 128 k 7 (by decide) (by decide) (by decide)) a
  | 8 => blockStage 8 256 (by decide) (by decide) (by decide) (by decide) (by decide) (by decide) (by decide) (blockAsc 8 256 k 8 (by decide) (by decide) (by decide)) a
  | 9 => blockStage 4 512 (by decide) (by decide) (by decide) (by decide) (by decide) (by decide) (by decide) (blockAsc 4 512 k 9 (by decide) (by decide) (by decide)) a
  | 10 => blockStage 2 1024 (by decide) (by decide) (by decide) (by decide) (by decide) (by decide) (by decide) (blockAsc 2 1024 k 10 (by decide) (by decide) (by decide)) a
  | 11 => colStage 1 0#32 (by decide) (by decide) (by decide) (by decide) (by decide) (by decide) (ascOf k) a
  | 12 => colStage 2 1#32 (by decide) (by decide) (by decide) (by decide) (by decide) (by decide) (ascOf k) a
  | 13 => colStage 4 2#32 (by decide) (by decide) (by decide) (by decide) (by decide) (by decide) (ascOf k) a
  | 14 => colStage 8 3#32 (by decide) (by decide) (by decide) (by decide) (by decide) (by decide) (ascOf k) a
  | 15 => colStage 16 4#32 (by decide) (by decide) (by decide) (by decide) (by decide) (by decide) (ascOf k) a
  | 16 => colStage 32 5#32 (by decide) (by decide) (by decide) (by decide) (by decide) (by decide) (ascOf k) a
  | _ => colStage 64 6#32 (by decide) (by decide) (by decide) (by decide) (by decide) (by decide) (ascOf k) a

/-- The stages in order: rounds 1 to 18, in each round the distances downwards, as pairs (round, exponent). -/
def stageList : List (ℕ × ℕ) :=
  (List.range 18).flatMap fun l => (List.range (l + 1)).reverse.map fun j => (l + 1, j)

/-! ## The program -/

section Prog
variable (arg5 : Memref sig .tc .vmem S4096x128 .f32)

/-- Load the whole scratch. -/
def loadAll : Prog (TpuEff nD τ sig (Elt F) Λ₀ .tc) (Vec F S4096x128 .f32) :=
  Prog.lift (.load arg5 (Rect.unit (s := S4096x128) ![0, 0] S4096x128.size inb_S4096x128_S4096x128_0_0).toLoadRect (View.loadsAt_vmem h_S4096x128))

/-- Store the whole scratch. -/
def storeAll (v : FVec F S4096x128 .f32) : Prog (TpuEff nD τ sig (Elt F) Λ₀ .tc) PUnit :=
  Prog.lift (.store arg5 (Rect.unit (s := S4096x128) ![0, 0] S4096x128.size inb_S4096x128_S4096x128_0_0) v Finset.univ (View.stores_vmem_bits_univ h_S4096x128 rfl) (.inl rfl))

/-- One stage: load, (load,) store. -/
def stepProg (p : ℕ × ℕ) : Prog (TpuEff nD τ sig (Elt F) Λ₀ .tc) PUnit :=
  loadAll (F := F) arg5 >>= fun v => loadAll (F := F) arg5 >>= fun _ =>
    storeAll arg5 (shapeCast S4096x128 (stageFn p.1 p.2 v) shapeCasts_S4096x128_S4096x128)

/-- The stages of a list, then `k`. -/
def stepsProg (k : Prog (TpuEff nD τ sig (Elt F) Λ₀ .tc) PUnit) : List (ℕ × ℕ) → Prog (TpuEff nD τ sig (Elt F) Λ₀ .tc) PUnit
  | [] => k
  | p :: ps => stepProg arg5 p >>= fun _ => stepsProg k ps

end Prog

/-- The projections of the two clouds, stored in the scratch's halves. -/
def prologue (i : grid0.Coords) (arg1 : Memref sig .tc .smem S128x3 .f32) (arg2 : Memref sig .tc .vmem S3x2048x128 .f32) (arg3 : Memref sig .tc .vmem S3x2048x128 .f32) (arg5 : Memref sig .tc .vmem S4096x128 .f32) :
    Prog (TpuEff nD τ sig (Elt F) Λ₀ .tc) PUnit := do
  let v1 : Elt F .f32 ← smemLoad arg1 (Rect.unit (s := S128x3) (k0_off1 i) S1x1.size (k0_off1_inb i)) numel1_S1x1 rfl
  let v3 : Elt F .f32 ← smemLoad arg1 (Rect.unit (s := S128x3) (k0_off2 i) S1x1.size (k0_off2_inb i)) numel1_S1x1 rfl
  let v5 : Elt F .f32 ← smemLoad arg1 (Rect.unit (s := S128x3) (k0_off3 i) S1x1.size (k0_off3_inb i)) numel1_S1x1 rfl
  let v16 : Vec F S1x2048x128 .f32 ← Prog.lift (.load arg2 (Rect.unit (s := S3x2048x128) ![0, 0, 0] S1x2048x128.size inb_S3x2048x128_S1x2048x128_0_0_0).toLoadRect (View.loadsAt_vmem h_S1x2048x128))
  let v20 : Vec F S1x2048x128 .f32 ← Prog.lift (.load arg2 (Rect.unit (s := S3x2048x128) ![1, 0, 0] S1x2048x128.size inb_S3x2048x128_S1x2048x128_1_0_0).toLoadRect (View.loadsAt_vmem h_S1x2048x128))
  let v25 : Vec F S1x2048x128 .f32 ← Prog.lift (.load arg2 (Rect.unit (s := S3x2048x128) ![2, 0, 0] S1x2048x128.size inb_S3x2048x128_S1x2048x128_2_0_0).toLoadRect (View.loadsAt_vmem h_S1x2048x128))
  let v30 : Vec F S2048x128 .f32 ← Prog.lift (.load arg5 (Rect.unit (s := S4096x128) ![0, 0] S2048x128.size inb_S4096x128_S2048x128_0_0).toLoadRect (View.loadsAt_vmem h_S2048x128))
  Prog.lift (.store arg5 (Rect.unit (s := S4096x128) ![0, 0] S2048x128.size inb_S4096x128_S2048x128_0_0) (k0_pay6 v1 v3 v5 v16 v20 v25) Finset.univ (View.stores_vmem_bits_univ h_S2048x128 rfl) (.inl rfl))
  let v33 : Vec F S1x2048x128 .f32 ← Prog.lift (.load arg3 (Rect.unit (s := S3x2048x128) ![0, 0, 0] S1x2048x128.size inb_S3x2048x128_S1x2048x128_0_0_0).toLoadRect (View.loadsAt_vmem h_S1x2048x128))
  let v37 : Vec F S1x2048x128 .f32 ← Prog.lift (.load arg3 (Rect.unit (s := S3x2048x128) ![1, 0, 0] S1x2048x128.size inb_S3x2048x128_S1x2048x128_1_0_0).toLoadRect (View.loadsAt_vmem h_S1x2048x128))
  let v42 : Vec F S1x2048x128 .f32 ← Prog.lift (.load arg3 (Rect.unit (s := S3x2048x128) ![2, 0, 0] S1x2048x128.size inb_S3x2048x128_S1x2048x128_2_0_0).toLoadRect (View.loadsAt_vmem h_S1x2048x128))
  let v47 : Vec F S2048x128 .f32 ← Prog.lift (.load arg5 (Rect.unit (s := S4096x128) ![2048, 0] S2048x128.size inb_S4096x128_S2048x128_2048_0).toLoadRect (View.loadsAt_vmem h_S2048x128))
  Prog.lift (.store arg5 (Rect.unit (s := S4096x128) ![2048, 0] S2048x128.size inb_S4096x128_S2048x128_2048_0) (k0_pay8 (k0_pay4 v1 v3 v5) (k0_pay5 v1 v3 v5) (k0_pay7 v1 v3 v5 v33) v37 v42) Finset.univ (View.stores_vmem_bits_univ h_S2048x128 rfl) (.inl rfl))

/-- The halves' squared distance, added to the running total (divided at the last point). -/
def epilogue (i : grid0.Coords) (arg4 : Memref sig .tc .smem S1x1 .f32) (arg5 : Memref sig .tc .vmem S4096x128 .f32) :
    Prog (TpuEff nD τ sig (Elt F) Λ₀ .tc) PUnit := do
  let v4600 : Vec F S2048x128 .f32 ← Prog.lift (.load arg5 (Rect.unit (s := S4096x128) ![0, 0] S2048x128.size inb_S4096x128_S2048x128_0_0).toLoadRect (View.loadsAt_vmem h_S2048x128))
  let v4601 : Vec F S2048x128 .f32 ← Prog.lift (.load arg5 (Rect.unit (s := S4096x128) ![2048, 0] S2048x128.size inb_S4096x128_S2048x128_2048_0).toLoadRect (View.loadsAt_vmem h_S2048x128))
  let v4609 : Elt F .f32 ← smemLoad arg4 (Rect.unit (s := S1x1) ![0, 0] S1x1.size inb_S1x1_S1x1_0_0) numel1_S1x1 rfl
  let v4615 : Elt F .f32 ← smemLoad arg4 (Rect.unit (s := S1x1) ![0, 0] S1x1.size inb_S1x1_S1x1_0_0) numel1_S1x1 rfl
  Prog.lift (.store arg4 (Rect.unit (s := S1x1) ![0, 0] S1x1.size inb_S1x1_S1x1_0_0)
    (fun _ => k0_pay1 (k0_pay493 (BitVec.ofNat 32 (i 0).val) v4600 v4601 v4609) (Scalar.cmpi .eq (BitVec.ofNat 32 (i 0).val) 127#32) (Scalar.ofBits .f32 0x4C000000#32))
    Finset.univ (View.stores_smem_one rfl numel1_S1x1) (.inl rfl))

end Cert.KernelIdeal.Own

end
-- ==== Proof.Own.Steps.lean ====
/- Running the stages: the scratch ends with the stages folded over what it held. -/
module

public import proofs.«01_k».proof.Proof.Own.Stages
public import Idealize.ShloMosaic.Lib.Pipeline.Value

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What a stage makes of the scratch. -/
def applyStage (s : Scr F) (p : ℕ × ℕ) : Scr F := shapeCast S4096x128 (stageFn p.1 p.2 s) shapeCasts_S4096x128_S4096x128

theorem step_wp (c : Dev nD) (arg5 : Memref sig .tc .vmem S4096x128 .f32) (harg5 : arg5.IsWhole) (p : ℕ × ℕ) (s : Scr F)
    (E : Set ℕ) (K : PUnit → sProp 𝕄) :
    iprop(owns (c : Thread nD τ) arg5 fullShare s ∗ (owns (c : Thread nD τ) arg5 fullShare (applyStage s p) -∗ K ⟨⟩))
      ⊢ wp frame (wpE (defs₀ (F := F)) Variants.none c none) E (stepProg arg5 p) K := by
  unfold stepProg loadAll storeAll
  unfold owns
  iintro ⟨⟨%f0, %hf0, H0⟩, Hk⟩
  obtain rfl := harg5.eq_unread hf0
  sl_exec
  sl_step
  iapply Hk
  iexists _; isplitr; swap; · iexact H0
  ipureintro
  rw [View.read_writes_eq_canon _ _ _ (fun y => ⟨_, List.mem_singleton_self _, by
      rw [Rect.mem_set_unit]; intro a; exact ⟨by fin_cases a <;> exact Nat.zero_le _, by fin_cases a <;> exact (Nat.zero_add _).symm ▸ (y _).isLt⟩⟩),
    View.canon_unit_zero (by funext a; fin_cases a <;> rfl), View.readAt_eq_ld, hf0, View.ld_unit_zero (by funext a; fin_cases a <;> rfl)]
  rfl

/-- The stages of a list, run. -/
theorem steps_wp (c : Dev nD) (arg5 : Memref sig .tc .vmem S4096x128 .f32) (harg5 : arg5.IsWhole)
    (k : Prog (TpuEff nD τ sig (Elt F) Λ₀ .tc) PUnit) (E : Set ℕ) (K : PUnit → sProp 𝕄) (L : List (ℕ × ℕ)) : ∀ s : Scr F,
    iprop(owns (c : Thread nD τ) arg5 fullShare s
        ∗ (owns (c : Thread nD τ) arg5 fullShare (L.foldl applyStage s) -∗ wp frame (wpE (defs₀ (F := F)) Variants.none c none) E k K))
      ⊢ wp frame (wpE (defs₀ (F := F)) Variants.none c none) E (stepsProg arg5 k L) K := by
  induction L with
  | nil =>
    intro s
    iintro ⟨H, Hk⟩
    iapply Hk
    iexact H
  | cons p ps ih =>
    intro s
    rw [stepsProg, Idealize.SL.Sem.wp_bind]
    iintro ⟨H, Hk⟩
    iapply (step_wp c arg5 harg5 p s E _)
    isplitl [H]; · iexact H
    iintro H
    iapply (ih _)
    isplitl [H]; · iexact H
    iexact Hk

/-- Word `(i, 0)`, `(i, 1)`, `(i, 2)` of the directions. -/
def dir0 (i : grid0.Coords) (x0 : Vec F S128x3 .f32) : Elt F .f32 :=
  View.ld x0 (Rect.unit (s := S128x3) (k0_off1 i) S1x1.size (k0_off1_inb i)) (Shape.Idx.first (numel1_S1x1.symm ▸ Nat.one_pos))
def dir1 (i : grid0.Coords) (x0 : Vec F S128x3 .f32) : Elt F .f32 :=
  View.ld x0 (Rect.unit (s := S128x3) (k0_off2 i) S1x1.size (k0_off2_inb i)) (Shape.Idx.first (numel1_S1x1.symm ▸ Nat.one_pos))
def dir2 (i : grid0.Coords) (x0 : Vec F S128x3 .f32) : Elt F .f32 :=
  View.ld x0 (Rect.unit (s := S128x3) (k0_off3 i) S1x1.size (k0_off3_inb i)) (Shape.Idx.first (numel1_S1x1.symm ▸ Nat.one_pos))

/-- One colour plane of a cloud. -/
abbrev plane0 (x : Vec F S3x2048x128 .f32) : Vec F S1x2048x128 .f32 :=
  View.ld x (Rect.unit (s := S3x2048x128) ![0, 0, 0] S1x2048x128.size inb_S3x2048x128_S1x2048x128_0_0_0)
abbrev plane1 (x : Vec F S3x2048x128 .f32) : Vec F S1x2048x128 .f32 :=
  View.ld x (Rect.unit (s := S3x2048x128) ![1, 0, 0] S1x2048x128.size inb_S3x2048x128_S1x2048x128_1_0_0)
abbrev plane2 (x : Vec F S3x2048x128 .f32) : Vec F S1x2048x128 .f32 :=
  View.ld x (Rect.unit (s := S3x2048x128) ![2, 0, 0] S1x2048x128.size inb_S3x2048x128_S1x2048x128_2_0_0)

/-- The scratch's two halves. -/
abbrev rectTop : Rect S4096x128 := Rect.unit (s := S4096x128) ![0, 0] S2048x128.size inb_S4096x128_S2048x128_0_0
abbrev rectBot : Rect S4096x128 := Rect.unit (s := S4096x128) ![2048, 0] S2048x128.size inb_S4096x128_S2048x128_2048_0

/-- What the projection leaves in the scratch's halves. -/
def projTop (i : grid0.Coords) (x0 : Vec F S128x3 .f32) (x1 : Vec F S3x2048x128 .f32) : FVec F S2048x128 .f32 :=
  k0_pay6 (dir0 i x0) (dir1 i x0) (dir2 i x0) (plane0 x1) (plane1 x1) (plane2 x1)
def projBot (i : grid0.Coords) (x0 : Vec F S128x3 .f32) (x2 : Vec F S3x2048x128 .f32) : FVec F S2048x128 .f32 :=
  k0_pay8 (k0_pay4 (dir0 i x0) (dir1 i x0) (dir2 i x0)) (k0_pay5 (dir0 i x0) (dir1 i x0) (dir2 i x0))
    (k0_pay7 (dir0 i x0) (dir1 i x0) (dir2 i x0) (plane0 x2)) (plane1 x2) (plane2 x2)

/-- What the projection leaves in the scratch. -/
def projScr (i : grid0.Coords) (x0 : Vec F S128x3 .f32) (x1 x2 : Vec F S3x2048x128 .f32) : Scr F :=
  View.canon [(⟨rectBot, projBot i x0 x2⟩ : View.Piece (Elt F) S4096x128 .f32), ⟨rectTop, projTop i x0 x1⟩]

/-- The one word of the result. -/
def d0Of (d : Vec F S1x1 .f32) : Elt F .f32 :=
  View.ld d (Rect.unit (s := S1x1) ![0, 0] S1x1.size inb_S1x1_S1x1_0_0) (Shape.Idx.first (numel1_S1x1.symm ▸ Nat.one_pos))

/-- The total after point `i`, from the sorted scratch and the total before. -/
def totOf (i : grid0.Coords) (s : Scr F) (prev : F .f32) : F .f32 :=
  k0_pay1 (k0_pay493 (BitVec.ofNat 32 (i 0).val) (View.ld s rectTop) (View.ld s rectBot) prev)
    (Scalar.cmpi .eq (BitVec.ofNat 32 (i 0).val) 127#32) (Scalar.ofBits .f32 0x4C000000#32)

theorem prologue_wp (c : Dev nD) (i : grid0.Coords) (arg1 : Memref sig .tc .smem S128x3 .f32) (harg1 : arg1.IsWhole) (arg2 : Memref sig .tc .vmem S3x2048x128 .f32) (harg2 : arg2.IsWhole) (arg3 : Memref sig .tc .vmem S3x2048x128 .f32) (harg3 : arg3.IsWhole) (arg5 : Memref sig .tc .vmem S4096x128 .f32) (harg5 : arg5.IsWhole)
    (x0 : Vec F S128x3 .f32) (x1 : Vec F S3x2048x128 .f32) (x2 : Vec F S3x2048x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg5 fullShare (projScr i x0 x1 x2)) -∗ K ⟨⟩))
      ⊢ wp frame (wpE (defs₀ (F := F)) Variants.none c none) E (prologue i arg1 arg2 arg3 arg5) K := by
  unfold prologue
  unfold owns
  iintro ⟨⟨%f0, %hf0, H0⟩, ⟨%f1, %hf1, H1⟩, ⟨%f2, %hf2, H2⟩, ⟨%d5, %f5, -, H5⟩, Hk⟩
  obtain rfl := harg1.eq_unread hf0; obtain rfl := harg2.eq_unread hf1; obtain rfl := harg3.eq_unread hf2
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact H5
  ipureintro
  sl_unfold_words
  rw [View.read_writes_eq_canon _ _ _ ?_]
  · simp only [View.readAt_eq_ld, hf0, hf1, hf2]; unfold projScr projTop projBot dir0 dir1 dir2
    rfl
  · intro y
    by_cases hy : (y 0).val < 2048
    · refine ⟨_, List.mem_cons_of_mem _ (List.mem_singleton_self _), ?_⟩
      rw [Rect.mem_set_unit]; intro a; fin_cases a
      · exact ⟨Nat.zero_le _, by show (y 0).val < 0 + 2048; omega⟩
      · exact ⟨Nat.zero_le _, by show (y 1).val < 0 + 128; have := (y 1).isLt; change (y 1).val < 128 at this; omega⟩
    · refine ⟨_, List.mem_cons_self .., ?_⟩
      rw [Rect.mem_set_unit]; intro a; fin_cases a
      · exact ⟨by show 2048 ≤ (y 0).val; omega, by show (y 0).val < 2048 + 2048; have := (y 0).isLt; change (y 0).val < 4096 at this; omega⟩
      · exact ⟨Nat.zero_le _, by show (y 1).val < 0 + 128; have := (y 1).isLt; change (y 1).val < 128 at this; omega⟩

theorem epilogue_wp (c : Dev nD) (i : grid0.Coords) (arg4 : Memref sig .tc .smem S1x1 .f32) (harg4 : arg4.IsWhole) (arg5 : Memref sig .tc .vmem S4096x128 .f32) (harg5 : arg5.IsWhole)
    (d : Vec F S1x1 .f32) (s : Scr F) (E : Set ℕ) (K : PUnit → sProp 𝕄) :
    iprop(owns (c : Thread nD τ) arg4 fullShare d ∗ owns (c : Thread nD τ) arg5 fullShare s
        ∗ (iprop(owns (c : Thread nD τ) arg4 fullShare (fun _ => totOf i s (d0Of d)) ∗ owns (c : Thread nD τ) arg5 fullShare s) -∗ K ⟨⟩))
      ⊢ wp frame (wpE (defs₀ (F := F)) Variants.none c none) E (epilogue i arg4 arg5) K := by
  unfold epilogue
  unfold owns
  iintro ⟨⟨%f4, %hf4, H4⟩, ⟨%f5, %hf5, H5⟩, Hk⟩
  obtain rfl := harg4.eq_unread hf4; obtain rfl := harg5.eq_unread hf5
  sl_exec
  sl_step
  iapply Hk
  isplitl [H4]
  · iexists _; isplitr; swap; · iexact H4
    ipureintro
    sl_unfold_words
    rw [View.read_writes_eq_canon _ _ _ (fun y => ⟨_, List.mem_singleton_self _, by
        rw [Rect.mem_set_unit]; intro a; exact ⟨by fin_cases a <;> exact Nat.zero_le _, by fin_cases a <;> exact (Nat.zero_add _).symm ▸ (y _).isLt⟩⟩),
      View.canon_unit_zero (by funext a; fin_cases a <;> rfl)]
    simp only [View.readAt_eq_ld, hf4, hf5]; unfold totOf d0Of
    rfl
  iexists _; isplitr; swap; · iexact H5
  ipureintro
  exact hf5

end Cert.KernelIdeal.Own

end
-- ==== Proof.Own.Network.lean ====
/- The stages of the kernel's sort, read element by element over the extended reals: each is a stage of the bitonic network,
   so a half of the scratch comes out sorted. -/
module

public import proofs.«01_k».proof.Proof.Own.Steps
public import Idealize.ShloMosaic.Lib.SortNet.Sorts
public import Idealize.ShloMosaic.Lib.Pointwise
public import Idealize.ShloMosaic.PureOps.Ideal

@[expose] public section

noncomputable section

namespace Cert.KernelIdeal.Own

open Idealize.ShloMosaic Idealize.ShloMosaic.SortNet
open Cert.KernelIdeal Cert.KernelIdeal.Gen

/-! ## Masks -/

/-- The word that is one where bit `b` of a small number is clear. -/
theorem word_bit (r b : ℕ) (hr : r < 2 ^ 31) (hb : b < 32) :
    IntOp.cmpi .eq (IntOp.andi (IntOp.shrsi .vector (BitVec.ofNat 32 r) (BitVec.ofNat 32 b)) 1#32) 0#32 = BitVec.ofBool (!r.testBit b) := by
  have e : IntOp.andi (IntOp.shrsi .vector (BitVec.ofNat 32 r) (BitVec.ofNat 32 b)) 1#32 = BitVec.ofNat 32 (r.testBit b).toNat := by
    unfold IntOp.andi IntOp.shrsi
    rw [if_pos (by rw [BitVec.toNat_ofNat, Nat.mod_eq_of_lt (by omega)]; exact hb)]
    apply BitVec.eq_of_toNat_eq
    rw [BitVec.sshiftRight', BitVec.sshiftRight_eq_of_msb_false (by rw [BitVec.msb_eq_false_iff_two_mul_lt, BitVec.toNat_ofNat, Nat.mod_eq_of_lt (by omega)]; omega)]
    rw [BitVec.toNat_and, BitVec.toNat_ushiftRight, BitVec.toNat_ofNat, BitVec.toNat_ofNat, BitVec.toNat_ofNat, BitVec.toNat_ofNat,
      Nat.mod_eq_of_lt (show r < 2 ^ 32 by omega), Nat.mod_eq_of_lt (show b < 2 ^ 32 by omega), Nat.mod_eq_of_lt (show 1 < 2 ^ 32 by omega),
      Nat.and_one_is_mod, Nat.mod_eq_of_lt (lt_of_le_of_lt (Bool.toNat_le _) (by decide)), Nat.toNat_testBit, Nat.shiftRight_eq_div_pow]
  rw [e]
  cases r.testBit b <;> rfl

theorem spreadRow_rowBit (b : ℕ) (hb : b < 32) (r : Fin 4096) (c : Fin 128) :
    spreadRow (rowBit (BitVec.ofNat 32 b)) (ix2 r c) = BitVec.ofBool (!r.val.testBit b) := by
  rw [← word_bit r.val b (by omega) hb]
  unfold spreadRow
  rw [shapeCast_self]
  show IntOp.cmpi .eq (IntOp.andi (IntOp.shrsi .vector (BitVec.ofNat 32 (0 * 4096 + _)) (BitVec.ofNat 32 b)) 1#32) 0#32 = _
  rw [Nat.zero_mul, Nat.zero_add]
  rfl

theorem spreadCol_colBit (b : ℕ) (hb : b < 32) (r : Fin 4096) (c : Fin 128) :
    spreadCol (colBit (BitVec.ofNat 32 b)) (ix2 r c) = BitVec.ofBool (!c.val.testBit b) := by
  rw [← word_bit c.val b (by omega) hb]
  unfold spreadCol
  rw [shapeCast_self]
  show IntOp.cmpi .eq (IntOp.andi (IntOp.shrsi .vector (BitVec.ofNat 32 (0 * 128 + _)) (BitVec.ofNat 32 b)) 1#32) 0#32 = _
  rw [Nat.zero_mul, Nat.zero_add]
  rfl

/-- Whether round `k` goes upwards at a row and column. -/
def ascB (k r c : ℕ) : Bool := if k ≤ 10 then !r.testBit k else if k ≤ 17 then !c.testBit (k - 11) else true

/-- The smaller or the larger. -/
def pick (b : Bool) (x y : EReal) : EReal := if b then min x y else max x y

theorem pick_comm (b : Bool) (x y : EReal) : pick b x y = pick b y x := by
  unfold pick; rw [min_comm, max_comm]

theorem select_ofBool {α : Type} (c : Bool) (u v : α) : Scalar.select (BitVec.ofBool c) u v = if c then u else v := by
  cases c <;> rfl

/-- An exchange at an index. -/
theorem exchange_apply (k : ℕ) (low : IVec S4096x128 1) (lb : Bool) (a p : Scr Ideal) (r : Fin 4096) (c : Fin 128)
    (hl : low (ix2 r c) = BitVec.ofBool lb) :
    exchange (ascOf k) low a p (ix2 r c) = pick (lb == ascB k r.val c.val) (a (ix2 r c)) (p (ix2 r c)) := by
  have key : ∀ (u : IVec S4096x128 1) (ub : Bool), u (ix2 r c) = BitVec.ofBool ub →
      exchange (some u) low a p (ix2 r c) = pick (lb == ub) (a (ix2 r c)) (p (ix2 r c)) := by
    intro u ub hu
    show Scalar.select (low (ix2 r c)) (Scalar.select (u (ix2 r c)) (min (a (ix2 r c)) (p (ix2 r c))) (max (a (ix2 r c)) (p (ix2 r c))))
      (Scalar.select (u (ix2 r c)) (max (a (ix2 r c)) (p (ix2 r c))) (min (a (ix2 r c)) (p (ix2 r c)))) = _
    rw [hl, hu, select_ofBool, select_ofBool, select_ofBool]
    unfold pick
    cases lb <;> cases ub <;> rfl
  unfold ascOf ascB
  by_cases h : k ≤ 10
  · rw [if_pos h, if_pos h]
    exact key _ _ (spreadRow_rowBit k (by omega) r c)
  · rw [if_neg h, if_neg h]
    by_cases h' : k ≤ 17
    · rw [if_pos h', if_pos h']
      exact key _ _ (spreadCol_colBit (k - 11) (by omega) r c)
    · rw [if_neg h', if_neg h']
      show Scalar.select (low (ix2 r c)) (min (a (ix2 r c)) (p (ix2 r c))) (max (a (ix2 r c)) (p (ix2 r c))) = _
      rw [hl, select_ofBool]
      unfold pick
      cases lb <;> rfl

/-! ## Partners -/

theorem xor_of_clear (n j : ℕ) (h : n.testBit j = false) : n ^^^ 2 ^ j = n + 2 ^ j :=
  xor_two_pow_of_clear n j ((and_two_pow_eq_zero_iff_testBit n j).mpr h)

theorem xor_of_set (n j : ℕ) (h : n.testBit j = true) : 2 ^ j ≤ n ∧ n ^^^ 2 ^ j = n - 2 ^ j := by
  have h2 : (n ^^^ 2 ^ j).testBit j = false := by rw [Nat.testBit_xor, h, Nat.testBit_two_pow_self]; rfl
  have h3 := xor_of_clear _ j h2
  rw [Nat.xor_assoc, Nat.xor_self, Nat.xor_zero] at h3
  omega

/-- A row stage at an index. -/
theorem rowStage_apply (k b : ℕ) (hb : b < 12) (w : BitVec 32) (hw : w = BitVec.ofNat 32 b) (s : ℕ) (hs : s = 2 ^ b) (h1 h2 h3 h4 h5 h6)
    (a : Scr Ideal) (r r' : Fin 4096) (c : Fin 128) (hr : r'.val = r.val ^^^ 2 ^ b) :
    rowStage s w h1 h2 h3 h4 h5 h6 (ascOf k) a (ix2 r c)
      = pick ((!r.val.testBit b) == ascB k r.val c.val) (a (ix2 r c)) (a (ix2 r' c)) := by
  subst hw
  unfold rowStage
  rw [exchange_apply k _ _ _ _ r c (spreadRow_rowBit b (by omega) r c)]
  congr 1
  show Scalar.select _ _ _ = _
  rw [spreadRow_rowBit b (by omega) r c, select_ofBool]
  by_cases h : r.val.testBit b = true
  · obtain ⟨hle, hx⟩ := xor_of_set _ _ h
    rw [h, if_neg (by decide), concatenate_pair_apply, dif_neg (by show ¬ r.val < s; omega), Shape.Idx.norm_def]
    unfold extractStridedSlice
    congr 1
    funext x
    apply Fin.ext
    fin_cases x
    · show 0 + (r.val - s) = r'.val
      omega
    · show 0 + c.val = c.val
      omega
  · have h : r.val.testBit b = false := by simpa using h
    have hx := xor_of_clear _ _ h
    rw [h, if_pos (by decide), concatenate_pair_apply, dif_pos (by show r.val < 4096 - s; omega), Shape.Idx.norm_def]
    unfold extractStridedSlice
    congr 1
    funext x
    apply Fin.ext
    fin_cases x
    · show s + r.val = r'.val
      omega
    · show 0 + c.val = c.val
      omega

/-- A column stage at an index. -/
theorem colStage_apply (k b : ℕ) (hb : b < 7) (w : BitVec 32) (hw : w = BitVec.ofNat 32 b) (s : ℕ) (hs : s = 2 ^ b) (h1 h2 h3 h4 h5 h6)
    (a : Scr Ideal) (r : Fin 4096) (c c' : Fin 128) (hr : c'.val = c.val ^^^ 2 ^ b) :
    colStage s w h1 h2 h3 h4 h5 h6 (ascOf k) a (ix2 r c)
      = pick ((!c.val.testBit b) == ascB k r.val c.val) (a (ix2 r c)) (a (ix2 r c')) := by
  subst hw
  unfold colStage
  rw [exchange_apply k _ _ _ _ r c (spreadCol_colBit b (by omega) r c)]
  congr 1
  show Scalar.select _ _ _ = _
  rw [spreadCol_colBit b (by omega) r c, select_ofBool]
  by_cases h : c.val.testBit b = true
  · obtain ⟨hle, hx⟩ := xor_of_set _ _ h
    rw [h, if_neg (by decide), concatenate_pair_apply, dif_neg (by show ¬ c.val < s; omega), Shape.Idx.norm_def]
    unfold extractStridedSlice
    congr 1
    funext x
    apply Fin.ext
    fin_cases x
    · show 0 + r.val = r.val
      omega
    · show 0 + (c.val - s) = c'.val
      omega
  · have h : c.val.testBit b = false := by simpa using h
    have hx := xor_of_clear _ _ h
    rw [h, if_pos (by decide), concatenate_pair_apply, dif_pos (by show c.val < 128 - s; omega), Shape.Idx.norm_def]
    unfold extractStridedSlice
    congr 1
    funext x
    apply Fin.ext
    fin_cases x
    · show 0 + r.val = r.val
      omega
    · show s + c.val = c'.val
      omega

/-! ## Block stages -/

theorem blockPick_apply (m s k j : ℕ) (h1 h2 h3) (hm : m ≤ 4096) (hm1 : m ≠ 1) (hk : j < k) (x y : FVec Ideal ⟨3, ![m, s, 128]⟩ .f32)
    (q : Fin m) (t : Fin s) (c : Fin 128) (r : ℕ) (hr : q.val = r / 2 ^ (j + 1)) :
    blockPick (blockAsc m s k j h1 h2 h3) x y (ix3 q t c) = if ascB k r c.val then x (ix3 q t c) else y (ix3 q t c) := by
  have key : ∀ (u : IVec ⟨3, ![m, s, 128]⟩ 1) (ub : Bool), u (ix3 q t c) = BitVec.ofBool ub →
      blockPick (some u) x y (ix3 q t c) = if ub then x (ix3 q t c) else y (ix3 q t c) := by
    intro u ub hu
    show Scalar.select (u (ix3 q t c)) _ _ = _
    rw [hu, select_ofBool]
  unfold blockAsc ascB
  by_cases h : k ≤ 10
  · rw [if_pos h, if_pos h]
    apply key
    have e : r.testBit k = q.val.testBit (k - j - 1) := by
      rw [hr, Nat.testBit_div_two_pow]
      congr 1
      omega
    rw [e, ← word_bit q.val (k - j - 1) (by omega) (by omega), shapeCast_self]
    show IntOp.cmpi .eq (IntOp.andi (IntOp.shrsi .vector (BitVec.ofNat 32 (0 * m + Fin.val (if h : m = 1 then _ else _))) _) 1#32) 0#32 = _
    rw [Nat.zero_mul, Nat.zero_add, dif_neg hm1]
    rfl
  · rw [if_neg h, if_neg h]
    by_cases h' : k ≤ 17
    · rw [if_pos h', if_pos h']
      apply key
      rw [← word_bit c.val (k - 11) (by omega) (by omega), shapeCast_self]
      unfold broadcastTo shapeCast
      rw [Shape.reshapeEquiv_eq_of_rowMajor (y := ix2 (0 : Fin 1) c)]
      · show IntOp.cmpi .eq (IntOp.andi (IntOp.shrsi .vector (BitVec.ofNat 32 (0 * 128 + _)) (BitVec.ofNat 32 (k - 11))) 1#32) 0#32 = _
        rw [Nat.zero_mul, Nat.zero_add]
        rfl
      · rw [rowMajor_val2 _ 128 rfl, rowMajor_val3 _ 128 128 rfl rfl]
        rfl
    · rw [if_neg h', if_neg h']
      rfl

/-- A block stage at an index. -/
theorem blockStage_apply (m s k j : ℕ) (hm : m ≤ 4096) (hm1 : m ≠ 1) (hms : m * (2 * s) = 4096) (hs : s = 2 ^ j) (hk : j < k)
    (h1 h2 h3 c1 s0 s1 c2 c3 cc c4)
    (a : Scr Ideal) (r r' : Fin 4096) (c : Fin 128) (hr : r'.val = r.val ^^^ 2 ^ j) :
    blockStage m s c1 s0 s1 c2 c3 cc c4 (blockAsc m s k j h1 h2 h3) a (ix2 r c)
      = pick ((!r.val.testBit j) == ascB k r.val c.val) (a (ix2 r c)) (a (ix2 r' c)) := by
  have hs0 : 0 < s := by rw [hs]; exact Nat.two_pow_pos j
  have hr0 := r.isLt
  have hdiv : r.val / (2 * s) < m := by rw [Nat.div_lt_iff_lt_mul (by omega)]; omega
  have hdm := Nat.div_add_mod r.val (2 * s)
  have hmod := Nat.mod_lt r.val (show 0 < 2 * s by omega)
  have hq2 : r.val / (2 * s) = r.val / 2 ^ (j + 1) := by rw [hs, Nat.pow_succ, Nat.mul_comm]
  have hbit : r.val.testBit j = decide (r.val / s % 2 = 1) := by rw [hs, Nat.testBit_eq_decide_div_mod_eq]
  have hds : r.val / s = 2 * (r.val / (2 * s)) + r.val / s % 2 := by
    have : r.val / (2 * s) = r.val / s / 2 := by rw [Nat.mul_comm, Nat.div_div_eq_div_mul]
    omega
  have hsm := Nat.div_add_mod r.val s
  have hsl := Nat.mod_lt r.val hs0
  -- the pair, the half and the row in it
  let q : Fin m := ⟨r.val / (2 * s), hdiv⟩
  let t : Fin s := ⟨r.val % s, hsl⟩
  have hlo : ∀ (p : Fin 4096), p.val = q.val * (2 * s) + t.val → ∀ z : FVec Ideal ⟨3, ![m, s, 128]⟩ .f32,
      z = shapeCast ⟨3, ![m, s, 128]⟩ (extractStridedSlice ⟨4, ![m, 1, s, 128]⟩ ![0, 0, 0, 0] (shapeCast ⟨4, ![m, 2, s, 128]⟩ a c1) s0) c2 →
      z (ix3 q t c) = a (ix2 p c) := by
    intro p hp z hz
    rw [hz]
    unfold shapeCast
    rw [Shape.reshapeEquiv_eq_of_rowMajor (y := ix4 q (0 : Fin 1) t c)]
    · unfold extractStridedSlice
      beta_reduce
      rw [Shape.reshapeEquiv_eq_of_rowMajor (y := ix2 p c)]
      rw [rowMajor_val2 _ 128 rfl, rowMajor_val4 _ (2 * (s * 128)) (s * 128) 128 rfl rfl rfl]
      show p.val * 128 + c.val = (0 + q.val) * (2 * (s * 128)) + (0 + 0) * (s * 128) + (0 + t.val) * 128 + (0 + c.val)
      rw [hp]; ring
    · rw [rowMajor_val3 _ (s * 128) 128 rfl rfl, rowMajor_val4 _ (1 * (s * 128)) (s * 128) 128 rfl rfl rfl]
      show q.val * (1 * (s * 128)) + 0 * (s * 128) + t.val * 128 + c.val = q.val * (s * 128) + t.val * 128 + c.val
      ring
  have hhi : ∀ (p : Fin 4096), p.val = q.val * (2 * s) + s + t.val → ∀ z : FVec Ideal ⟨3, ![m, s, 128]⟩ .f32,
      z = shapeCast ⟨3, ![m, s, 128]⟩ (extractStridedSlice ⟨4, ![m, 1, s, 128]⟩ ![0, 1, 0, 0] (shapeCast ⟨4, ![m, 2, s, 128]⟩ a c1) s1) c2 →
      z (ix3 q t c) = a (ix2 p c) := by
    intro p hp z hz
    rw [hz]
    unfold shapeCast
    rw [Shape.reshapeEquiv_eq_of_rowMajor (y := ix4 q (0 : Fin 1) t c)]
    · unfold extractStridedSlice
      beta_reduce
      rw [Shape.reshapeEquiv_eq_of_rowMajor (y := ix2 p c)]
      rw [rowMajor_val2 _ 128 rfl, rowMajor_val4 _ (2 * (s * 128)) (s * 128) 128 rfl rfl rfl]
      show p.val * 128 + c.val = (0 + q.val) * (2 * (s * 128)) + (1 + 0) * (s * 128) + (0 + t.val) * 128 + (0 + c.val)
      rw [hp]; ring
    · rw [rowMajor_val3 _ (s * 128) 128 rfl rfl, rowMajor_val4 _ (1 * (s * 128)) (s * 128) 128 rfl rfl rfl]
      show q.val * (1 * (s * 128)) + 0 * (s * 128) + t.val * 128 + c.val = q.val * (s * 128) + t.val * 128 + c.val
      ring
  -- a half of the result, put back
  have hback : ∀ (x : FVec Ideal ⟨3, ![m, s, 128]⟩ .f32) (i : Shape.Idx ⟨4, ![m, 1, s, 128]⟩), i = ix4 q (0 : Fin 1) t c →
      shapeCast ⟨4, ![m, 1, s, 128]⟩ x c3 i = x (ix3 q t c) := by
    intro x i hi
    rw [hi]
    unfold shapeCast
    rw [Shape.reshapeEquiv_eq_of_rowMajor (y := ix3 q t c)]
    rw [rowMajor_val3 _ (s * 128) 128 rfl rfl, rowMajor_val4 _ (1 * (s * 128)) (s * 128) 128 rfl rfl rfl]
    show q.val * (s * 128) + t.val * 128 + c.val = q.val * (1 * (s * 128)) + 0 * (s * 128) + t.val * 128 + c.val
    ring
  have hmin : ∀ (x y : FVec Ideal ⟨3, ![m, s, 128]⟩ .f32), minimumf x y (ix3 q t c) = min (x (ix3 q t c)) (y (ix3 q t c)) := fun _ _ => rfl
  have hmax : ∀ (x y : FVec Ideal ⟨3, ![m, s, 128]⟩ .f32), maximumf x y (ix3 q t c) = max (x (ix3 q t c)) (y (ix3 q t c)) := fun _ _ => rfl
  unfold blockStage
  generalize hv : shapeCast ⟨4, ![m, 2, s, 128]⟩ a c1 = v at *
  generalize hl : shapeCast ⟨3, ![m, s, 128]⟩ (extractStridedSlice ⟨4, ![m, 1, s, 128]⟩ ![0, 0, 0, 0] v s0) c2 = lo at *
  generalize hh : shapeCast ⟨3, ![m, s, 128]⟩ (extractStridedSlice ⟨4, ![m, 1, s, 128]⟩ ![0, 1, 0, 0] v s1) c2 = hi at *
  rw [Pointwise.shapeCast_apply _ c4]
  by_cases hb : r.val / s % 2 = 1
  · rw [decide_eq_true hb] at hbit
    obtain ⟨hle, hx⟩ := xor_of_set _ _ hbit
    have e1 : s * (r.val / s) = r.val / (2 * s) * (2 * s) + s := by rw [hds, hb]; ring
    rw [hbit, Shape.reshapeEquiv_eq_of_rowMajor (y := ix4 q (1 : Fin 2) t c), concatenate_pair_apply,
      dif_neg (by show ¬ 1 < 1; omega), Shape.Idx.norm_def, hback _ _ (by funext x; apply Fin.ext; fin_cases x <;> rfl),
      blockPick_apply m s k j h1 h2 h3 hm hm1 hk _ _ q t c r.val hq2, hmin, hmax, hlo r' _ lo rfl, hhi r _ hi rfl]
    · unfold pick
      rw [min_comm, max_comm]
      cases ascB k r.val c.val <;> rfl
    · show r.val = r.val / (2 * s) * (2 * s) + s + r.val % s
      omega
    · show r'.val = r.val / (2 * s) * (2 * s) + r.val % s
      omega
    · rw [rowMajor_val2 _ 128 rfl, rowMajor_val4 _ (2 * (s * 128)) (s * 128) 128 rfl rfl rfl]
      show r.val / (2 * s) * (2 * (s * 128)) + 1 * (s * 128) + r.val % s * 128 + c.val = r.val * 128 + c.val
      have e2 : r.val / (2 * s) * (2 * (s * 128)) = r.val / (2 * s) * (2 * s) * 128 := by ring
      omega
  · have hb : r.val / s % 2 = 0 := by omega
    have hbit : r.val.testBit j = false := by rw [hbit, hb]; rfl
    have e1 : s * (r.val / s) = r.val / (2 * s) * (2 * s) := by rw [hds, hb]; ring
    have hx := xor_of_clear _ _ hbit
    rw [hbit, Shape.reshapeEquiv_eq_of_rowMajor (y := ix4 q (0 : Fin 2) t c), concatenate_pair_apply,
      dif_pos (by show 0 < 1; omega), Shape.Idx.norm_def, hback _ _ (by funext x; apply Fin.ext; fin_cases x <;> rfl),
      blockPick_apply m s k j h1 h2 h3 hm hm1 hk _ _ q t c r.val hq2, hmin, hmax, hlo r _ lo rfl, hhi r' _ hi rfl]
    · unfold pick
      cases ascB k r.val c.val <;> rfl
    · show r'.val = r.val / (2 * s) * (2 * s) + s + r.val % s
      omega
    · show r.val = r.val / (2 * s) * (2 * s) + r.val % s
      omega
    · rw [rowMajor_val2 _ 128 rfl, rowMajor_val4 _ (2 * (s * 128)) (s * 128) 128 rfl rfl rfl]
      show r.val / (2 * s) * (2 * (s * 128)) + 0 * (s * 128) + r.val % s * 128 + c.val = r.val * 128 + c.val
      have e2 : r.val / (2 * s) * (2 * (s * 128)) = r.val / (2 * s) * (2 * s) * 128 := by ring
      omega

/-! ## A stage on a half of the scratch -/

/-- The cell of half `h` at position `n` of the sorted order: columns first, then rows. -/
def posn (h : Fin 2) (n : Fin (2 ^ 18)) : S4096x128.Idx :=
  ix2 ⟨h.val * 2048 + n.val % 2048, by have := h.isLt; omega⟩ ⟨n.val / 2048, by have := n.isLt; omega⟩

/-- A half of the scratch in the order the network sorts it. -/
def half (h : Fin 2) (s : Scr Ideal) : Fin (2 ^ 18) → EReal := fun n => s (posn h n)

theorem row_testBit (h n b : ℕ) (hb : b < 11) : (h * 2048 + n % 2048).testBit b = n.testBit b := by
  rw [show h * 2048 = 2 ^ 11 * h by ring, Nat.testBit_two_pow_mul_add _ (Nat.mod_lt _ (by decide)), if_pos hb,
    Nat.testBit_mod_two_pow]
  simp [hb]

theorem col_testBit (n b : ℕ) : (n / 2048).testBit b = n.testBit (b + 11) := by
  rw [show (2048 : ℕ) = 2 ^ 11 from rfl, Nat.testBit_div_two_pow]

theorem ascB_posn (k : ℕ) (hk : k ≤ 18) (h : Fin 2) (n : Fin (2 ^ 18)) :
    ascB k (h.val * 2048 + n.val % 2048) (n.val / 2048) = !n.val.testBit k := by
  unfold ascB
  by_cases h1 : k ≤ 10
  · rw [if_pos h1, row_testBit _ _ _ (by omega)]
  · rw [if_neg h1]
    by_cases h2 : k ≤ 17
    · rw [if_pos h2, col_testBit, Nat.sub_add_cancel (by omega)]
    · rw [if_neg h2, Nat.testBit_lt_two_pow (lt_of_lt_of_le n.isLt (Nat.pow_le_pow_right (by decide) (by omega)))]
      rfl

/-- The row of the partner. -/
theorem row_partner (h : ℕ) (n j : ℕ) (hj : j < 11) : h * 2048 + (n ^^^ 2 ^ j) % 2048 = (h * 2048 + n % 2048) ^^^ 2 ^ j := by
  have hlt : ∀ x, x % 2 ^ 11 < 2 ^ 11 := fun x => Nat.mod_lt _ (by decide)
  apply Nat.eq_of_testBit_eq
  intro i
  rw [Nat.testBit_xor, show (2048 : ℕ) = 2 ^ 11 from rfl, Nat.mul_comm h, Nat.testBit_two_pow_mul_add _ (hlt _), Nat.testBit_two_pow_mul_add _ (hlt _)]
  by_cases hi : i < 11
  · rw [if_pos hi, if_pos hi, Nat.testBit_mod_two_pow, Nat.testBit_mod_two_pow, Nat.testBit_xor]
    simp [hi]
  · rw [if_neg hi, if_neg hi, Nat.testBit_two_pow_of_ne (by omega), Bool.xor_false]

theorem row_partner_col (n j : ℕ) (hj : j < 11) : (n ^^^ 2 ^ j) / 2048 = n / 2048 := by
  apply Nat.eq_of_testBit_eq
  intro i
  rw [col_testBit, col_testBit, Nat.testBit_xor, Nat.testBit_two_pow_of_ne (by omega), Bool.xor_false]

theorem col_partner (n j : ℕ) (hj : 11 ≤ j) : (n ^^^ 2 ^ j) / 2048 = (n / 2048) ^^^ 2 ^ (j - 11) := by
  apply Nat.eq_of_testBit_eq
  intro i
  rw [Nat.testBit_xor, col_testBit, col_testBit, Nat.testBit_xor]
  congr 1
  rw [Nat.testBit_two_pow, Nat.testBit_two_pow]
  exact decide_eq_decide.mpr (by omega)

theorem col_partner_row (n j : ℕ) (hj : 11 ≤ j) : (n ^^^ 2 ^ j) % 2048 = n % 2048 := by
  apply Nat.eq_of_testBit_eq
  intro i
  rw [show (2048 : ℕ) = 2 ^ 11 from rfl, Nat.testBit_mod_two_pow, Nat.testBit_mod_two_pow, Nat.testBit_xor]
  by_cases hi : i < 11
  · rw [Nat.testBit_two_pow_of_ne (by omega), Bool.xor_false]
  · simp [hi]

/-- A stage at a position: its element against its partner's. -/
theorem stageFn_posn (k j : ℕ) (hk : k ≤ 18) (hj : j < k) (a : Scr Ideal) (h : Fin 2) (n : Fin (2 ^ 18)) :
    stageFn k j a (posn h n) = pick (n.val.testBit j == n.val.testBit k) (half h a n) (half h a (partner 18 j n)) := by
  have hp : (partner 18 j n).val = n.val ^^^ 2 ^ j := partner_val (by omega) n
  have hbb : ∀ x y : Bool, ((!x) == (!y)) = (x == y) := by decide
  have hh := h.isLt
  have hn := n.isLt
  by_cases hj' : j < 11
  · have key : stageFn k j a (posn h n) = pick ((!(h.val * 2048 + n.val % 2048).testBit j) == ascB k (h.val * 2048 + n.val % 2048) (n.val / 2048))
        (a (posn h n)) (a (ix2 ⟨h.val * 2048 + (n.val ^^^ 2 ^ j) % 2048, by omega⟩ ⟨n.val / 2048, by omega⟩)) := by
      have hr := row_partner h.val n.val j hj'
      unfold posn
      interval_cases j
      · exact rowStage_apply k 0 (by decide) _ rfl _ rfl _ _ _ _ _ _ a _ _ _ hr
      · exact rowStage_apply k 1 (by decide) _ rfl _ rfl _ _ _ _ _ _ a _ _ _ hr
      · exact rowStage_apply k 2 (by decide) _ rfl _ rfl _ _ _ _ _ _ a _ _ _ hr
      · exact blockStage_apply 256 8 k 3 (by decide) (by decide) (by decide) rfl hj _ _ _ _ _ _ _ _ _ _ a _ _ _ hr
      · exact blockStage_apply 128 16 k 4 (by decide) (by decide) (by decide) rfl hj _ _ _ _ _ _ _ _ _ _ a _ _ _ hr
      · exact blockStage_apply 64 32 k 5 (by decide) (by decide) (by decide) rfl hj _ _ _ _ _ _ _ _ _ _ a _ _ _ hr
      · exact blockStage_apply 32 64 k 6 (by decide) (by decide) (by decide) rfl hj _ _ _ _ _ _ _ _ _ _ a _ _ _ hr
      · exact blockStage_apply 16 128 k 7 (by decide) (by decide) (by decide) rfl hj _ _ _ _ _ _ _ _ _ _ a _ _ _ hr
      · exact blockStage_apply 8 256 k 8 (by decide) (by decide) (by decide) rfl hj _ _ _ _ _ _ _ _ _ _ a _ _ _ hr
      · exact blockStage_apply 4 512 k 9 (by decide) (by decide) (by decide) rfl hj _ _ _ _ _ _ _ _ _ _ a _ _ _ hr
      · exact blockStage_apply 2 1024 k 10 (by decide) (by decide) (by decide) rfl hj _ _ _ _ _ _ _ _ _ _ a _ _ _ hr
    rw [key, ascB_posn k hk, row_testBit _ _ _ hj', hbb]
    unfold half posn
    congr 3
    · apply Fin.ext
      show h.val * 2048 + _ % 2048 = h.val * 2048 + (partner 18 j n).val % 2048
      rw [hp]
    · apply Fin.ext
      show n.val / 2048 = (partner 18 j n).val / 2048
      rw [hp, row_partner_col _ _ hj']
  · have key : stageFn k j a (posn h n) = pick ((!(n.val / 2048).testBit (j - 11)) == ascB k (h.val * 2048 + n.val % 2048) (n.val / 2048))
        (a (posn h n)) (a (ix2 ⟨h.val * 2048 + n.val % 2048, by omega⟩ ⟨(partner 18 j n).val / 2048, by have := (partner 18 j n).isLt; omega⟩)) := by
      have hr := col_partner n.val j (by omega)
      rw [← hp] at hr
      have hj18 : j < 18 := by omega
      unfold posn
      interval_cases j
      all_goals exact colStage_apply k _ (by decide) _ rfl _ rfl _ _ _ _ _ _ a _ _ _ hr
    rw [key, ascB_posn k hk, col_testBit, hbb, Nat.sub_add_cancel (by omega)]
    unfold half posn
    congr 3
    apply Fin.ext
    show h.val * 2048 + n.val % 2048 = h.val * 2048 + (partner 18 j n).val % 2048
    rw [hp, col_partner_row _ _ (by omega)]

/-- A stage of the kernel is the stage of the network. -/
theorem half_applyStage (k j : ℕ) (hk : k ≤ 18) (hj : j < k) (a : Scr Ideal) (h : Fin 2) :
    half h (applyStage a (k, j)) = Network.apply (stage 18 j fun i => decide (i.val &&& 2 ^ k = 0) == false) (half h a) := by
  funext n
  have hs : j < 18 := by omega
  have hL : half h (applyStage a (k, j)) n = stageFn k j a (posn h n) := by
    unfold half applyStage; rw [shapeCast_self]
  have hkb : ∀ x : ℕ, (decide (x &&& 2 ^ k = 0) == false) = x.testBit k := by
    intro x
    simp only [and_two_pow_eq_zero_iff_testBit]
    by_cases hx : x.testBit k = true <;> simp [hx]
  rw [hL, stageFn_posn k j hk hj]
  by_cases hb : n.val &&& 2 ^ j = 0
  · rw [(apply_stage hs _ (half h a) n hb).1, hkb, (and_two_pow_eq_zero_iff_testBit _ _).mp hb]
    unfold pick
    cases n.val.testBit k <;> rfl
  · have hset : n.val.testBit j = true := by
      cases hx : n.val.testBit j
      · exact absurd ((and_two_pow_eq_zero_iff_testBit _ _).mpr hx) hb
      · rfl
    have hm : (partner 18 j n).val &&& 2 ^ j = 0 := partner_and_of_set hs n hb
    have h2 := (apply_stage hs (fun i => decide (i.val &&& 2 ^ k = 0) == false) (half h a) (partner 18 j n) hm).2
    rw [partner_partner hs] at h2
    rw [h2, hset, hkb, partner_val hs, Nat.testBit_xor, Nat.testBit_two_pow_of_ne (by omega), Bool.xor_false, pick_comm]
    unfold pick
    cases n.val.testBit k <;> rfl

/-- The whole sort on a half is the bitonic network on it. -/
theorem half_stages (h : Fin 2) (L : List (ℕ × ℕ)) (hL : ∀ p ∈ L, p.1 ≤ 18 ∧ p.2 < p.1) : ∀ a : Scr Ideal,
    half h (L.foldl applyStage a)
      = Network.apply (L.flatMap fun p => stage 18 p.2 fun i => decide (i.val &&& 2 ^ p.1 = 0) == false) (half h a) := by
  induction L with
  | nil => intro a; rfl
  | cons p L ih =>
    intro a
    have hp := hL p List.mem_cons_self
    rw [List.foldl_cons, ih (fun q hq => hL q (List.mem_cons_of_mem _ hq)), List.flatMap_cons, Network.apply_append,
      ← half_applyStage p.1 p.2 hp.1 hp.2]

theorem stageList_flatMap : (stageList.flatMap fun p => stage 18 p.2 fun i => decide (i.val &&& 2 ^ p.1 = 0) == false) = sortNet 18 false := by
  unfold stageList sortNet
  rw [List.flatMap_assoc]
  congr 1
  funext l
  rw [List.flatMap_map]

end Cert.KernelIdeal.Own

end
-- ==== Proof.Own.BodyEq.lean ====
/- The kernel's body is those three pieces, one after the other. -/
module

public import proofs.«01_k».proof.Proof.Own.Stages

@[expose] public section

noncomputable section

namespace Cert.KernelIdeal.Own

open Idealize.ShloMosaic Idealize.SL.Sem Cert.KernelIdeal Cert.KernelIdeal.Gen

variable {F : FTy → Type} [FloatOps F]

set_option maxRecDepth 1000000 in
set_option maxHeartbeats 0 in
theorem body_eq (i : grid0.Coords) (arg1 : Memref sig .tc .smem S128x3 .f32) (harg1 : arg1.IsWhole) (arg2 : Memref sig .tc .vmem S3x2048x128 .f32) (harg2 : arg2.IsWhole) (arg3 : Memref sig .tc .vmem S3x2048x128 .f32) (harg3 : arg3.IsWhole) (arg4 : Memref sig .tc .smem S1x1 .f32) (harg4 : arg4.IsWhole) (arg5 : Memref sig .tc .vmem S4096x128 .f32) (harg5 : arg5.IsWhole) :
    cc0__body (F := F) i arg1 harg1 arg2 harg2 arg3 harg3 arg4 harg4 arg5 harg5
      = prologue i arg1 arg2 arg3 arg5 >>= fun _ => stepsProg arg5 (epilogue i arg4 arg5) stageList := rfl

end Cert.KernelIdeal.Own

end
-- ==== Proof.Own.Body.lean ====
/- The body's triple: from the three inputs and the total so far, the new total. -/
module

public import proofs.«01_k».proof.Proof.Own.BodyEq
public import proofs.«01_k».proof.Proof.Own.Steps

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- All the stages. -/
def sortScr (s : Scr F) : Scr F := stageList.foldl applyStage s

/-- What point `i` adds its squared distance from: the two sorted projections, in the scratch's halves. -/
def sortedAt (i : grid0.Coords) (x0 : Vec F S128x3 .f32) (x1 x2 : Vec F S3x2048x128 .f32) : Scr F := sortScr (projScr i x0 x1 x2)

theorem body_wp (c : Dev nD) (i : grid0.Coords) (arg1 : Memref sig .tc .smem S128x3 .f32) (harg1 : arg1.IsWhole) (arg2 : Memref sig .tc .vmem S3x2048x128 .f32) (harg2 : arg2.IsWhole) (arg3 : Memref sig .tc .vmem S3x2048x128 .f32) (harg3 : arg3.IsWhole) (arg4 : Memref sig .tc .smem S1x1 .f32) (harg4 : arg4.IsWhole) (arg5 : Memref sig .tc .vmem S4096x128 .f32) (harg5 : arg5.IsWhole)
    (x0 : Vec F S128x3 .f32) (x1 : Vec F S3x2048x128 .f32) (x2 : Vec F S3x2048x128 .f32) (d : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare d ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (fun _ => totOf i (sortedAt i x0 x1 x2) (d0Of d)) ∗ (∃ d, owns (c : Thread nD τ) arg5 fullShare d)) -∗ K ⟨⟩))
      ⊢ wp frame (wpE (defs₀ (F := F)) Variants.none c none) E (cc0__body (F := F) i arg1 harg1 arg2 harg2 arg3 harg3 arg4 harg4 arg5 harg5) K := by
  rw [body_eq, Idealize.SL.Sem.wp_bind]
  iintro ⟨H1, H2, H3, H4, H5, Hk⟩
  iapply (prologue_wp c i arg1 harg1 arg2 harg2 arg3 harg3 arg5 harg5 x0 x1 x2 E _)
  isplitl [H1]; · iexact H1
  isplitl [H2]; · iexact H2
  isplitl [H3]; · iexact H3
  isplitl [H5]; · iexact H5
  iintro ⟨H1, H2, H3, H5⟩
  iapply (steps_wp c arg5 harg5 _ E K stageList (projScr i x0 x1 x2))
  isplitl [H5]; · iexact H5
  iintro H5
  iapply (epilogue_wp c i arg4 harg4 arg5 harg5 d _ E K)
  isplitl [H4]; · iexact H4
  isplitl [H5]; · iexact H5
  iintro ⟨H4, H5⟩
  iapply Hk
  isplitl [H1]; · iexact H1
  isplitl [H2]; · iexact H2
  isplitl [H3]; · iexact H3
  isplitl [H4]; · iexact H4
  iexists _; iexact H5

end Cert.KernelIdeal.Own

end
-- ==== Proof.Own.Sorted.lean ====
/- Sorted rows: what the kernel's network leaves in a half of the scratch, and what the reference's sort leaves in a row. Both
   are the increasing rearrangement of what was there. -/
module

public import proofs.«01_k».proof.Proof.Own.Network
public import proofs.«01_k».proof.Proof.Own.Body
public import proofs.«01_k».proof.Proof.Gen.ReferenceIdeal.Read
public import Idealize.ShloMosaic.Lib.SortFacts
public import Mathlib.Data.List.Sort
public import Mathlib.Data.List.OfFn

@[expose] public section

noncomputable section

namespace Cert.KernelIdeal.Own

open Idealize.ShloMosaic Idealize.ShloMosaic.SortNet
open Cert.KernelIdeal Cert.KernelIdeal.Gen

/-- `w` is `v` rearranged into increasing order. -/
def Sorts {N : ℕ} (v w : Fin N → EReal) : Prop := Monotone w ∧ ∃ σ : Equiv.Perm (Fin N), w = v ∘ σ

/-- There is one such rearrangement. -/
theorem Sorts.unique {N : ℕ} {v w w' : Fin N → EReal} (h : Sorts v w) (h' : Sorts v w') : w = w' := by
  obtain ⟨hm, σ, rfl⟩ := h
  obtain ⟨hm', τ, rfl⟩ := h'
  exact List.ofFn_injective (((σ.ofFn_comp_perm v).trans (τ.ofFn_comp_perm v).symm).eq_of_pairwise'
    hm.sortedLE_ofFn.pairwise hm'.sortedLE_ofFn.pairwise)

/-- Rearranging first changes nothing. -/
theorem Sorts.of_comp {N : ℕ} {v w : Fin N → EReal} (e : Equiv.Perm (Fin N)) (h : Sorts (v ∘ e) w) : Sorts v w := by
  obtain ⟨hm, σ, rfl⟩ := h
  exact ⟨hm, σ.trans e, rfl⟩

/-- The kernel's sort. -/
theorem sorts_half (h : Fin 2) (s : Scr Ideal) : Sorts (half h s) (half h (sortScr s)) := by
  have e : half h (sortScr s) = Network.apply (sortNet 18 false) (half h s) := by
    unfold sortScr
    rw [half_stages h stageList (by decide) s, stageList_flatMap]
  rw [e]
  obtain ⟨σ, hσ⟩ := Network.exists_perm (sortNet 18 false) (half h s)
  exact ⟨sortNet_apply_monotone 18 (half h s), σ, hσ⟩

/-! ## The reference's sort -/

theorem comparator_eq (l r : EReal) : Cert.ReferenceIdeal.comparator_f32_d1 (F := Ideal) l r = BitVec.ofBool (decide (l < r)) := by
  have hs : ∀ x : EReal, Scalar.select (FloatOps.cmpf (F := Ideal) (φ := .f32) .une x x) (FloatOps.ofBits .f32 0x7FC00000#32 : Ideal .f32)
      (Scalar.select (FloatOps.cmpf (F := Ideal) (φ := .f32) .oeq x (FloatOps.ofBits .f32 0x00000000#32)) (FloatOps.ofBits .f32 0x00000000#32) x) = x := by
    intro x
    rw [Ideal.cmpf_def, Ideal.cmpf_def]
    unfold Ideal.cmp
    dsimp only
    rw [select_ofBool, select_ofBool]
    by_cases hx : x = FloatOps.ofBits (F := Ideal) .f32 0x00000000#32
    · rw [decide_eq_true hx]
      simp only [ne_eq, not_true_eq_false, decide_false, if_true, Bool.false_eq_true, if_false]
      exact hx.symm
    · rw [decide_eq_false hx]
      simp
  unfold Cert.ReferenceIdeal.comparator_f32_d1
  dsimp only
  rw [hs, hs, Ideal.cmpfTotal_def]
  rfl

/-- A row of a sorted matrix is the row, rearranged by where its own sort takes each place from. -/
theorem host_sort_row {P N : ℕ} (cmp : EReal → EReal → BitVec 1) (B : EReal → EReal → Bool) (hc : ∀ a b, cmp a b = BitVec.ofBool (B a b))
    (x : (⟨2, ![P, N]⟩ : Shape).Idx → EReal) (p : Fin P) (n : Fin N) :
    Host.sort ⟨2, ![P, N]⟩ 1 cmp x (ix2 p n) = x (ix2 p (sortedFrom (fun a b : Fin N => B (x (ix2 p a)) (x (ix2 p b))) n)) := by
  have ha : ∀ k : Fin N, Shape.Idx.along (s := ⟨2, ![P, N]⟩) (ix2 p n) 1 k = ix2 p k := by
    intro k
    funext a
    fin_cases a <;> rfl
  have hf : (fun k k' : Fin N => cmp (x (Shape.Idx.along (s := ⟨2, ![P, N]⟩) (ix2 p n) 1 k)) (x (Shape.Idx.along (s := ⟨2, ![P, N]⟩) (ix2 p n) 1 k')) == 1#1)
      = fun a b => B (x (ix2 p a)) (x (ix2 p b)) := by
    funext k k'
    rw [ha, ha, hc]
    cases B (x (ix2 p k)) (x (ix2 p k')) <;> rfl
  unfold Host.sort
  exact (congrArg x (ha _)).trans (congrArg (fun f : Fin N → Fin N → Bool => x (ix2 p (sortedFrom f n))) hf)

/-- Taking each place of a tuple from where a stable sort by "less than" takes it sorts the tuple. -/
theorem sorts_sortedFrom {N : ℕ} (v : Fin N → EReal) : Sorts v (fun n => v (sortedFrom (fun a b => decide (v a < v b)) n)) := by
  let B : Fin N → Fin N → Bool := fun a b => decide (v a < v b)
  refine ⟨?_, Equiv.ofBijective (sortedFrom B) ⟨sortedFrom_injective B, sortedFrom_surjective B⟩, rfl⟩
  intro i j hij
  rcases eq_or_lt_of_le hij with rfl | hlt
  · exact le_refl _
  · have h := sortedFrom_noInversion B B (fun a b h => by simp only [B, decide_eq_true_eq, decide_eq_false_iff_not] at h ⊢; exact not_lt.mpr (le_of_lt h))
      (fun _ _ h => h)
      (fun a b c h h' => by simp only [B, decide_eq_false_iff_not, not_lt] at h h' ⊢; exact le_trans h' h) i j hlt
    simp only [B, decide_eq_false_iff_not, not_lt] at h
    exact h

/-- The reference's sort. -/
theorem sorts_host (x : FVec Ideal Cert.ReferenceIdeal.S128x262144 .f32) (p : Fin 128) :
    Sorts (fun n : Fin 262144 => x (ix2 p n))
      (fun n : Fin 262144 => Host.sort Cert.ReferenceIdeal.S128x262144 1 (Cert.ReferenceIdeal.comparator_f32_d1 (F := Ideal)) x (ix2 p n)) := by
  have e : (fun n : Fin 262144 => Host.sort Cert.ReferenceIdeal.S128x262144 1 (Cert.ReferenceIdeal.comparator_f32_d1 (F := Ideal)) x (ix2 p n)) = _ :=
    funext fun n => host_sort_row (P := 128) (N := 262144) (Cert.ReferenceIdeal.comparator_f32_d1 (F := Ideal)) (fun a b => decide (a < b)) comparator_eq x p n
  rw [e]
  exact sorts_sortedFrom (fun n : Fin 262144 => x (ix2 p n))

end Cert.KernelIdeal.Own

end
-- ==== Proof.Own.Launch.lean ====
/- The kernel's run: the total after every point, the launch, and what the result buffer ends holding. -/
module

public import proofs.«01_k».proof.Proof.Own.Body
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch at point `t`, sorted. -/
def scrAt (c : Dev nD) (t : Fin cfg0.N) : Scr F := sortedAt (grid0.coords t) (iblk m c 0 t) (iblk m c 1 t) (iblk m c 2 t)

/-- The total after point `n`. -/
def accAt (c : Dev nD) : (n : ℕ) → n < cfg0.N → F .f32
  | 0, h => totOf (grid0.coords ⟨0, h⟩) (scrAt m c ⟨0, h⟩) (Scalar.ofBits .f32 0x00000000#32)
  | n + 1, h => totOf (grid0.coords ⟨n + 1, h⟩) (scrAt m c ⟨n + 1, h⟩) (accAt c n (Nat.lt_of_succ_lt h))

theorem coords_val (t : Fin cfg0.N) : (grid0.coords t 0).val = t.val := by
  have h := Pipeline.Grid.coords_val (G := grid0) t 0 (S := 1) (B := 128) (by decide) (by decide)
  have ht : t.val < 128 := t.isLt
  rw [h, Nat.div_one, Nat.mod_eq_of_lt ht]

/-- At the first point the total before does not matter. -/
theorem totOf_first (i : grid0.Coords) (hi : (i 0).val = 0) (s : Scr F) (p q : F .f32) : totOf i s p = totOf i s q := by
  unfold totOf k0_pay493
  rw [hi]
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => accAt m c t.val t.isLt
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (fun _ => accAt m c t.val t.isLt : Vec F S1x1 .f32) := by
  dsimp only [dats]; rfl

/-- The body's total at point `t`, whatever word the result's buffer is found at. -/
theorem tot_before (c : Dev nD) (t : Fin cfg0.N) (d : Vec F S1x1 .f32) :
    totOf (grid0.coords t) (scrAt m c t) (d0Of ((dats m 0 c).before 3 t d : Vec F S1x1 .f32)) = accAt m c t.val t.isLt := by
  obtain ⟨n, hn⟩ := t
  cases n with
  | zero => exact totOf_first _ (coords_val _) _ _ _
  | succ n =>
    have hfl : (cfg0.win 3).flush ⟨(⟨n + 1, hn⟩ : Fin cfg0.N).val - 1, Nat.lt_of_le_of_lt (Nat.sub_le _ _) hn⟩ = false := by
      rw [Bool.eq_false_iff]
      intro h
      have h' := (flush0_3 _).mp h
      have hn' : n + 1 < 128 := hn
      simp only [Nat.add_sub_cancel] at h'
      omega
    have hb : ((dats m 0 c).before 3 ⟨n + 1, hn⟩ d : Vec F S1x1 .f32) = fun _ => accAt m c n (Nat.lt_of_succ_lt hn) :=
      ((dats m 0 c).before_out_kept 3 rfl ⟨n + 1, hn⟩ (Nat.succ_ne_zero n) hfl (fun _ => rfl) (fun _ _ => rfl) d).trans
        (after_3 m c ⟨n, Nat.lt_of_succ_lt hn⟩)
    rw [hb]
    rfl

/-! ## The body obligation -/

abbrev st_0 (t : Fin cfg0.N) : Memref sig .tc .smem S128x3 .f32 := win0_0.stage (cfg0.slots t 0)
abbrev st_1 (t : Fin cfg0.N) : Memref sig .tc .vmem S3x2048x128 .f32 := win0_1.stage (cfg0.slots t 1)
abbrev st_2 (t : Fin cfg0.N) : Memref sig .tc .vmem S3x2048x128 .f32 := win0_2.stage (cfg0.slots t 2)
abbrev st_3 (t : Fin cfg0.N) : Memref sig .tc .smem S1x1 .f32 := win0_3.stage (cfg0.slots t 3)
abbrev scr : Memref sig .tc .vmem S4096x128 .f32 := Memref.whole cc0_scratch0

theorem inv_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

def pre (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d))
    ∗ (∃ d, owns (c : Thread nD τ) (st_3 t) fullShare ((dats m 0 c).before 3 t d)))

def post (c : Dev nD) (t : Fin cfg0.N) : sProp 𝕄 :=
  iprop((dats m 0 c).Φ t.succ ∗ (dats m 0 c).owesAt () t.succ
    ∗ owns (c : Thread nD τ) (st_0 t) fullShare ((dats m 0 c).after 0 t)
    ∗ owns (c : Thread nD τ) (st_1 t) fullShare ((dats m 0 c).after 1 t)
    ∗ owns (c : Thread nD τ) (st_2 t) fullShare ((dats m 0 c).after 2 t)
    ∗ owns (c : Thread nD τ) (st_3 t) fullShare ((dats m 0 c).after 3 t))

theorem body_sound (c : Dev nD) (t : Fin cfg0.N) :
    pre m c t ⊢ wp frame (wpE (defs₀ (F := F)) Variants.none c none) Set.univ (bodyAt0 t) (fun _ => post m c t) := by
  unfold pre post bodyAt0
  simp only [before0_0_of m (dats m 0 c) (A_eq m c 0) (after_0 m c), before0_1_of m (dats m 0 c) (A_eq m c 1) (after_1 m c),
    before0_2_of m (dats m 0 c) (A_eq m c 2) (after_2 m c)]
  rw [show (dats m 0 c).Φ t.succ = (dats m 0 c).Φ t.castSucc from rfl,
    show (dats m 0 c).owesAt () t.succ = (dats m 0 c).owesAt () t.castSucc from rfl, after_0, after_1, after_2, after_3]
  rw [show (dats m 0 c).Φ t.castSucc = Pipeline.ΦA spec0 c from rfl, inv_eq]
  iintro ⟨⟨HS, Hg⟩, Ho, ⟨%d0, H0⟩, ⟨%d1, H1⟩, ⟨%d2, H2⟩, ⟨%d3, H3⟩⟩
  iapply (body_wp c (grid0.coords t) _ _ _ _ _ _ _ _ _ _ (iblk m c 0 t) (iblk m c 1 t) (iblk m c 2 t) ((dats m 0 c).before 3 t d3) Set.univ _)
  isplitl [H0]; · iexact H0
  isplitl [H1]; · iexact H1
  isplitl [H2]; · iexact H2
  isplitl [H3]; · iexact H3
  isplitl [HS]; · iexact HS
  rw [show totOf (grid0.coords t) (sortedAt (grid0.coords t) (iblk m c 0 t) (iblk m c 1 t) (iblk m c 2 t))
      (d0Of ((dats m 0 c).before 3 t d3 : Vec F S1x1 .f32)) = accAt m c t.val t.isLt from tot_before m c t d3]
  iintro ⟨H0, H1, H2, H3, HS⟩
  isplitl [HS Hg]
  · isplitl [HS]
    · iexact HS
    iexact Hg
  isplitl [Ho]; · iexact Ho
  isplitl [H0]; · iexact H0
  isplitl [H1]; · iexact H1
  isplitl [H2]; · iexact H2
  iexact H3

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_sound m c t) rfl .rfl fun _ => .rfl

/-! ## The run -/

set_option backward.isDefEq.respectTransparency.types false in
set_option maxHeartbeats 800000 in
/-- Every run ends, with the arrays and the later lines' buffers as the proof data say and all counters at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_post : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_all m ρ)

/-- The frame claim's statement. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_post m ρ)) ((θ_run defs _ _).mono (fun _ h => h.2) (run_all m ρ))

/-! ## The result -/

/-- The last point. -/
def tLast : Fin cfg0.N := ⟨127, by show 127 < grid0.N; rw [N_0]; decide⟩

/-- The total after the last point. -/
def total (c : Dev nD) : F .f32 := accAt m c 127 tLast.isLt

def resBuf (c : Dev nD) : Buf (Elt F) ((c : Thread nD τ).loc main_v2) := (fun _ => total m c : Vec F S1x1 .f32)

theorem flushed_eq (c : Dev nD) (t : Fin cfg0.N) (hf : (cfg0.win 3).flush t = true) :
    (dats m 0 c).flushed 3 t = ((cfg0.win 3).blk t).view.read (Elt F) (resBuf m c) := by
  have h3 : t.val = 127 := by
    have := (flush0_3 t).mp hf
    have h' : t.val < 128 := t.isLt
    omega
  obtain rfl : t = tLast := Fin.ext h3
  show (cfg0.win 3).cut (grid0.coords tLast) ((dats m 0 c).after 3 tLast) = _
  rw [after_3]
  rfl

theorem final_3 (c : Dev nD) : (dats m 0 c).arrAt 3 cfg0.N = resBuf m c :=
  (dats m 0 c).arrAt_eq_of_cover 3 (resBuf m c) (flushed_eq m c) fun i =>
    ⟨tLast, (flush0_3 tLast).mpr rfl, by
      show i ∈ ((View.whole main_v2).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => exact ⟨by show 0 ≤ (i 0 : Nat); omega, by show (i 0 : Nat) < 0 + 1; omega⟩
      | ⟨1, _⟩ => exact ⟨by show 0 ≤ (i 1 : Nat); omega, by show (i 1 : Nat) < 0 + 1; omega⟩⟩

theorem tail_res (c : Dev nD) : Pipeline.afterTail₀ cfgs (dats m) 0 (V0 m) [hostOps1] c main_v3 = (fun _ => total m c : Vec F S_ .f32) := by
  unfold Pipeline.afterTail₀
  show StableHlo.after [StableHlo.reshape main_v2 main_v3 (rfl : (.f32 : EltTy) = .f32) shapeCasts_S1x1_S_] _ _ = _
  rw [StableHlo.after_cons, StableHlo.after_nil, StableHlo.reshape_result]
  have h : Pipeline.withArrays spec0 c (V0 m c) (fun w => (dats m 0 c).arrAt w cfg0.N) (Proc.devRef .tc main_v2) = resBuf m c :=
    (Pipeline.withArrays_arr spec0 launch0.win.arr_inj c (V0 m c) _ 3).trans (final_3 m c)
  funext j
  show shapeCast _ (Pipeline.withArrays spec0 c (V0 m c) (fun w => (dats m 0 c).arrAt w cfg0.N) (Proc.devRef .tc main_v2)) _ j = _
  rw [h]
  rfl

/-! ## The input blocks -/

theorem V_v0 (c : Dev nD) : V m c main_v0 = (shapeCast S3x2048x128 (m ((c.tc : Thread nD τ).loc main_arg0) : Vec F S1x3x512x512 .f32) shapeCasts_S1x3x512x512_S3x2048x128 : Vec F S3x2048x128 .f32) := by
  show StableHlo.after hostOps0 _ (Proc.devRef .tc main_v0) = _
  after_results
  rfl

theorem V_v1 (c : Dev nD) : V m c main_v1 = (shapeCast S3x2048x128 (m ((c.tc : Thread nD τ).loc main_arg1) : Vec F S1x3x512x512 .f32) shapeCasts_S1x3x512x512_S3x2048x128 : Vec F S3x2048x128 .f32) := by
  show StableHlo.after hostOps0 _ (Proc.devRef .tc main_v1) = _
  after_results
  rfl

theorem iblk_0 (c : Dev nD) (t : Fin cfg0.N) : (iblk m c 0 t : Vec F S128x3 .f32) = m ((c.tc : Thread nD τ).loc main_arg2) := by
  refine Eq.trans ?_ (V_main_arg2 m c)
  exact Memref.read_access_unit_zero (Elt F) main_arg2 (off := fun a => win0_0.index t a * S128x3.size a) (funext fun a => by fin_cases a <;> rfl) _ (V m c main_arg2)

theorem iblk_1 (c : Dev nD) (t : Fin cfg0.N) : (iblk m c 1 t : Vec F S3x2048x128 .f32) = shapeCast S3x2048x128 (m ((c.tc : Thread nD τ).loc main_arg0) : Vec F S1x3x512x512 .f32) shapeCasts_S1x3x512x512_S3x2048x128 := by
  refine Eq.trans ?_ (V_v0 m c)
  exact Memref.read_access_unit_zero (Elt F) main_v0 (off := fun a => win0_1.index t a * S3x2048x128.size a) (funext fun a => by fin_cases a <;> rfl) _ (V m c main_v0)

theorem iblk_2 (c : Dev nD) (t : Fin cfg0.N) : (iblk m c 2 t : Vec F S3x2048x128 .f32) = shapeCast S3x2048x128 (m ((c.tc : Thread nD τ).loc main_arg1) : Vec F S1x3x512x512 .f32) shapeCasts_S1x3x512x512_S3x2048x128 := by
  refine Eq.trans ?_ (V_v1 m c)
  exact Memref.read_access_unit_zero (Elt F) main_v1 (off := fun a => win0_2.index t a * S3x2048x128.size a) (funext fun a => by fin_cases a <;> rfl) _ (V m c main_v1)

/-- The result buffer ends holding the total. -/
theorem run_value : θ_run defs (onTc (τ := τ) (main (F := F))) (s₀ m ρ) fun r => ∀ c : Dev nD,
    r.2.mem ((c.tc : Thread nD τ).loc main_v3) = (fun _ => total m c : Vec F S_ .f32) :=
  (θ_run defs _ _).mono (fun _ h c => ((h c).2 main_v3 (Pipeline.mem_restRefs_of main_v3 (by decide) (by decide))).trans (tail_res m c)) (run_post m ρ)

end Cert.KernelIdeal.Own

end
-- ==== Proof.Own.Read.lean ====
/- What the reference and the kernel project: a pixel of a cloud on a direction divided by its norm. Both sides are read down to
   `proj`, the reference in pixel order and the kernel in the order of its scratch. -/
module

public import proofs.«01_k».proof.Proof.Own.Sorted
public import proofs.«01_k».proof.Proof.Own.Launch
public import Idealize.ShloMosaic.Lib.Pipeline.ValueKit.Tiles

@[expose] public section

noncomputable section

namespace Cert.KernelIdeal.Own

open Idealize.ShloMosaic
open Cert.KernelIdeal Cert.KernelIdeal.Gen

/-- Channel `k` of pixel `n`. -/
def pix (x : Vec Ideal S1x3x512x512 .f32) (k : Fin 3) (n : Fin 262144) : EReal :=
  x (ix4 0 k ⟨n.val / 512, by have := n.isLt; omega⟩ ⟨n.val % 512, Nat.mod_lt _ (by decide)⟩)

/-- Pixel `n` projected on direction `p` divided by its norm. -/
def proj (x2 : Vec Ideal S128x3 .f32) (x : Vec Ideal S1x3x512x512 .f32) (p : Fin 128) (n : Fin 262144) : EReal :=
  k0_pay3 (F := Ideal) (x2 (ix2 p 0)) (x2 (ix2 p 1)) (x2 (ix2 p 2)) * pix x 0 n
    + k0_pay4 (F := Ideal) (x2 (ix2 p 0)) (x2 (ix2 p 1)) (x2 (ix2 p 2)) * pix x 1 n
    + k0_pay5 (F := Ideal) (x2 (ix2 p 0)) (x2 (ix2 p 1)) (x2 (ix2 p 2)) * pix x 2 n

/-! ## The reference -/

section Reference
open Cert.ReferenceIdeal.Read

theorem norm_ref (x2 : Vec Ideal S128x3 .f32) (p : Fin 128) (k : Fin 3) :
    val_main_v8 (F := Ideal) x2 (ix2 p k) = k0_pay2 (F := Ideal) (x2 (ix2 p 0)) (x2 (ix2 p 1)) (x2 (ix2 p 2)) := by
  rw [val_main_v8_apply, val_main_v7_apply, val_main_v6_apply, val_main_call1_v1_apply, val_main_call1_v0_apply, val_main_cst_apply,
    val_main_call0_v2_apply, val_main_call0_v1_apply, val_main_call0_cst_apply, Fin.sum_univ_three, val_main_call0_v0_apply,
    val_main_call0_v0_apply, val_main_call0_v0_apply]
  have e : ∀ q : Fin 3, idx_main_call0_v1 (idx_main_call0_v2 (idx_main_v8 (ix2 p k))) q = ix2 p q := by
    intro q
    funext a
    fin_cases a <;> rfl
  rw [e, e, e]
  show max _ (Ideal.sqrt (Ideal.ofBits .f32 0x00000000#32 + _)) = max (Ideal.sqrt _) _
  rw [Ideal.ofBits_zero_f32, zero_add, max_comm]
  rfl

theorem dir_ref (x2 : Vec Ideal S128x3 .f32) (p : Fin 128) (k : Fin 3) :
    val_main_v9 (F := Ideal) x2 (ix2 p k)
      = Scalar.divf (F := Ideal) (φ := .f32) (x2 (ix2 p k)) (k0_pay2 (F := Ideal) (x2 (ix2 p 0)) (x2 (ix2 p 1)) (x2 (ix2 p 2))) := by
  rw [val_main_v9_apply, norm_ref]
  rfl

theorem pix_ref0 (x : Vec Ideal S1x3x512x512 .f32) (k : Fin 3) (n : Fin 262144) :
    val_main_v10 (F := Ideal) x (ix2 k n) = pix x k n := by
  rw [val_main_v10_apply, val_main_v2_apply, val_main_v1_apply, val_main_v0_apply]
  unfold pix
  congr 1
  have hk := k.isLt
  have hn := n.isLt
  have h5 : (k.val * 262144 + n.val) / 262144 % 3 = k.val := by omega
  have h6 : (k.val * 262144 + n.val) / 512 % 512 = n.val / 512 := by omega
  have h7 : (k.val * 262144 + n.val) % 512 = n.val % 512 := by omega
  have h1 : (n.val * 3 + k.val) % 3 = k.val := by omega
  have h2 : (n.val * 3 + k.val) / 1536 = n.val / 512 := by omega
  have h3 : (n.val * 3 + k.val) / 3 = n.val := by omega
  have h4 : (k.val * 512 + n.val / 512) * 512 + n.val % 512 = k.val * 262144 + n.val := by omega
  funext a
  apply Fin.ext
  fin_cases a
  · rfl
  · show (((n.val * 3 + k.val) % 3 * 512 + (n.val * 3 + k.val) / 1536) * 512 + (n.val * 3 + k.val) / 3 % 512) / 262144 % 3 = k.val
    rw [h1, h2, h3, h4, h5]
  · show (((n.val * 3 + k.val) % 3 * 512 + (n.val * 3 + k.val) / 1536) * 512 + (n.val * 3 + k.val) / 3 % 512) / 512 % 512 = n.val / 512
    rw [h1, h2, h3, h4, h6]
  · show (((n.val * 3 + k.val) % 3 * 512 + (n.val * 3 + k.val) / 1536) * 512 + (n.val * 3 + k.val) / 3 % 512) % 512 = n.val % 512
    rw [h1, h2, h3, h4, h7]

/-- The second cloud goes through the same operations. -/
theorem pix_ref1 (x : Vec Ideal S1x3x512x512 .f32) (k : Fin 3) (n : Fin 262144) :
    val_main_v12 (F := Ideal) x (ix2 k n) = pix x k n := pix_ref0 x k n

theorem proj_ref0 (x2 : Vec Ideal S128x3 .f32) (x : Vec Ideal S1x3x512x512 .f32) (p : Fin 128) (n : Fin 262144) :
    val_main_v11 (F := Ideal) x x2 (ix2 p n) = proj x2 x p n := by
  rw [val_main_v11_apply, Fin.sum_univ_three]
  have el : ∀ q : Fin 3, lidx_main_v11 (ix2 p n) q = ix2 p q := by
    intro q; funext a; fin_cases a <;> rfl
  have er : ∀ q : Fin 3, ridx_main_v11 (ix2 p n) q = ix2 q n := by
    intro q; funext a; fin_cases a <;> rfl
  rw [el, el, el, er, er, er, dir_ref, dir_ref, dir_ref, pix_ref0, pix_ref0, pix_ref0]
  rfl

theorem proj_ref1 (x2 : Vec Ideal S128x3 .f32) (x : Vec Ideal S1x3x512x512 .f32) (p : Fin 128) (n : Fin 262144) :
    val_main_v13 (F := Ideal) x x2 (ix2 p n) = proj x2 x p n := proj_ref0 x2 x p n

end Reference

/-! ## The kernel -/

/-- The pixel at the place of the scratch that comes `n`-th in the order the network sorts. -/
def cellPixel (n : Fin 262144) : Fin 262144 := ⟨n.val % 2048 * 128 + n.val / 2048, by have := n.isLt; omega⟩

/-- Every pixel is at one place. -/
def cellPerm : Equiv.Perm (Fin 262144) where
  toFun := cellPixel
  invFun q := ⟨q.val % 128 * 2048 + q.val / 128, by have := q.isLt; omega⟩
  left_inv n := Fin.ext (by
    show (n.val % 2048 * 128 + n.val / 2048) % 128 * 2048 + (n.val % 2048 * 128 + n.val / 2048) / 128 = n.val
    have := n.isLt; omega)
  right_inv q := Fin.ext (by
    show (q.val % 128 * 2048 + q.val / 128) % 2048 * 128 + (q.val % 128 * 2048 + q.val / 128) / 2048 = q.val
    have := q.isLt; omega)

/-- The place within a half. -/
def cell (n : Fin 262144) : S2048x128.Idx :=
  ix2 ⟨n.val % 2048, Nat.mod_lt _ (by decide)⟩ ⟨n.val / 2048, by have := n.isLt; omega⟩

theorem dir0_eq (i : grid0.Coords) (x : Vec Ideal S128x3 .f32) : dir0 i x = x (ix2 (i 0) 0) := by
  unfold dir0
  apply View.ld_unit_apply_of
  intro a
  refine Eq.trans ?_ (congrArg (· + _) (congrFun (k0_off1_eq i) a).symm)
  fin_cases a <;> rfl

theorem dir1_eq (i : grid0.Coords) (x : Vec Ideal S128x3 .f32) : dir1 i x = x (ix2 (i 0) 1) := by
  unfold dir1
  apply View.ld_unit_apply_of
  intro a
  refine Eq.trans ?_ (congrArg (· + _) (congrFun (k0_off2_eq i) a).symm)
  fin_cases a <;> rfl

theorem dir2_eq (i : grid0.Coords) (x : Vec Ideal S128x3 .f32) : dir2 i x = x (ix2 (i 0) 2) := by
  unfold dir2
  apply View.ld_unit_apply_of
  intro a
  refine Eq.trans ?_ (congrArg (· + _) (congrFun (k0_off3_eq i) a).symm)
  fin_cases a <;> rfl

/-- A cloud as the kernel is handed it. -/
abbrev planes (x : Vec Ideal S1x3x512x512 .f32) : Vec Ideal S3x2048x128 .f32 := shapeCast S3x2048x128 x shapeCasts_S1x3x512x512_S3x2048x128

theorem planes_apply (x : Vec Ideal S1x3x512x512 .f32) (k : Fin 3) (n : Fin 262144) :
    planes x (ix3 k ⟨n.val % 2048, Nat.mod_lt _ (by decide)⟩ ⟨n.val / 2048, by have := n.isLt; omega⟩) = pix x k (cellPixel n) := by
  unfold pix
  refine shapeCast_apply x _ _ _ ?_
  rw [Shape.rowMajor_val_four, Shape.rowMajor_val_three]
  show ((0 * 3 + k.val) * 512 + (n.val % 2048 * 128 + n.val / 2048) / 512) * 512 + (n.val % 2048 * 128 + n.val / 2048) % 512
    = (k.val * 2048 + n.val % 2048) * 128 + n.val / 2048
  have := n.isLt
  omega

/-- A plane flattened to rows and columns. -/
theorem plane_apply (off : Fin 3 → ℕ) (inb : ∀ a, off a + S1x2048x128.size a ≤ S3x2048x128.size a) (k : Fin 3) (hoff : off = ![k.val, 0, 0])
    (y : Vec Ideal S3x2048x128 .f32) (r : Fin 2048) (c : Fin 128) :
    shapeCast S2048x128 (View.ld y (Rect.unit (s := S3x2048x128) off S1x2048x128.size inb) : Vec Ideal S1x2048x128 .f32) shapeCasts_S1x2048x128_S2048x128 (ix2 r c)
      = y (ix3 k r c) := by
  rw [shapeCast_apply _ _ (ix2 r c) (ix3 0 r c : S1x2048x128.Idx) (by
    rw [Shape.rowMajor_val_three, Shape.rowMajor_val_two]
    show (0 * 2048 + r.val) * 128 + c.val = r.val * 128 + c.val
    omega)]
  apply View.ld_unit_apply_of
  subst hoff
  intro a
  fin_cases a
  · rfl
  · exact (Nat.zero_add _).symm
  · exact (Nat.zero_add _).symm

theorem projTop_apply (i : grid0.Coords) (x2 : Vec Ideal S128x3 .f32) (x : Vec Ideal S1x3x512x512 .f32) (n : Fin 262144) :
    projTop i x2 (planes x) (cell n) = proj x2 x (i 0) (cellPixel n) := by
  unfold projTop k0_pay6 proj
  rw [dir0_eq, dir1_eq, dir2_eq, shapeCast_self]
  rw [← planes_apply x 0 n, ← planes_apply x 1 n, ← planes_apply x 2 n]
  unfold cell
  rw [← plane_apply ![0, 0, 0] inb_S3x2048x128_S1x2048x128_0_0_0 0 rfl (planes x), ← plane_apply ![1, 0, 0] inb_S3x2048x128_S1x2048x128_1_0_0 1 rfl (planes x),
    ← plane_apply ![2, 0, 0] inb_S3x2048x128_S1x2048x128_2_0_0 2 rfl (planes x)]
  rfl

/-- The lower half is projected by the same operations. -/
theorem projBot_eq (i : grid0.Coords) (x2 : Vec Ideal S128x3 .f32) (y : Vec Ideal S3x2048x128 .f32) : projBot i x2 y = projTop i x2 y := rfl

theorem half_top (i : grid0.Coords) (x0 : Vec Ideal S128x3 .f32) (y1 y2 : Vec Ideal S3x2048x128 .f32) (n : Fin 262144) :
    half 0 (projScr i x0 y1 y2) n = projTop i x0 y1 (cell n) := by
  have hn := n.isLt
  have e : posn 0 n = rectTop.emb (cell n) := by
    funext a
    apply Fin.ext
    refine Eq.trans ?_ (Rect.idx_unit_val _ _ _ (cell n) a).symm
    fin_cases a
    · show 0 * 2048 + n.val % 2048 = 0 + n.val % 2048
      omega
    · exact (Nat.zero_add _).symm
  have e0 : (posn 0 n 0).val = n.val % 2048 := by
    show 0 * 2048 + n.val % 2048 = _
    omega
  have hm : posn 0 n ∉ rectBot.set := by
    rw [Rect.mem_set_unit]
    intro h
    have h0 := (h 0).1
    rw [e0] at h0
    exact absurd (lt_of_le_of_lt h0 (Nat.mod_lt n.val (by decide))) (lt_irrefl 2048)
  unfold half projScr
  refine (View.canon_cons_of_not_mem (⟨rectBot, projBot i x0 y2⟩ : View.Piece (Elt Ideal) S4096x128 .f32) _ hm).trans ?_
  rw [e, View.canon_cons_emb]

theorem half_bot (i : grid0.Coords) (x0 : Vec Ideal S128x3 .f32) (y1 y2 : Vec Ideal S3x2048x128 .f32) (n : Fin 262144) :
    half 1 (projScr i x0 y1 y2) n = projTop i x0 y2 (cell n) := by
  have hn := n.isLt
  have e : posn 1 n = rectBot.emb (cell n) := by
    funext a
    apply Fin.ext
    refine Eq.trans ?_ (Rect.idx_unit_val _ _ _ (cell n) a).symm
    fin_cases a
    · show 1 * 2048 + n.val % 2048 = 2048 + n.val % 2048
      omega
    · exact (Nat.zero_add _).symm
  unfold half projScr
  rw [e, View.canon_cons_emb, projBot_eq]

/-! ## The sorted projections -/

/-- What the reference sorts `x` projected on direction `p` into, the scratch's half holds in the network's order. -/
theorem sorted_top (i : grid0.Coords) (x2 : Vec Ideal S128x3 .f32) (x y : Vec Ideal S1x3x512x512 .f32) (n : Fin 262144) :
    half 0 (sortedAt i x2 (planes x) (planes y)) n = Cert.ReferenceIdeal.Read.val_main_v14 (F := Ideal) x x2 (ix2 (i 0) n) := by
  have h1 : Sorts (N := 262144) (half 0 (projScr i x2 (planes x) (planes y))) (half 0 (sortedAt i x2 (planes x) (planes y))) := sorts_half 0 _
  have h2 := sorts_host (Cert.ReferenceIdeal.Read.val_main_v11 (F := Ideal) x x2) (i 0)
  rw [show half 0 (projScr i x2 (planes x) (planes y)) = (proj x2 x (i 0)) ∘ cellPerm from
    funext fun n => (half_top i x2 _ _ n).trans (projTop_apply i x2 x n)] at h1
  rw [show (fun n : Fin 262144 => Cert.ReferenceIdeal.Read.val_main_v11 (F := Ideal) x x2 (ix2 (i 0) n)) = proj x2 x (i 0) from
    funext fun n => proj_ref0 x2 x (i 0) n] at h2
  exact congrFun (h1.of_comp.unique h2) n

theorem sorted_bot (i : grid0.Coords) (x2 : Vec Ideal S128x3 .f32) (x y : Vec Ideal S1x3x512x512 .f32) (n : Fin 262144) :
    half 1 (sortedAt i x2 (planes x) (planes y)) n = Cert.ReferenceIdeal.Read.val_main_v15 (F := Ideal) y x2 (ix2 (i 0) n) := by
  have h1 : Sorts (N := 262144) (half 1 (projScr i x2 (planes x) (planes y))) (half 1 (sortedAt i x2 (planes x) (planes y))) := sorts_half 1 _
  have h2 := sorts_host (Cert.ReferenceIdeal.Read.val_main_v13 (F := Ideal) y x2) (i 0)
  rw [show half 1 (projScr i x2 (planes x) (planes y)) = (proj x2 y (i 0)) ∘ cellPerm from
    funext fun n => (half_bot i x2 _ _ n).trans (projTop_apply i x2 y n)] at h1
  rw [show (fun n : Fin 262144 => Cert.ReferenceIdeal.Read.val_main_v13 (F := Ideal) y x2 (ix2 (i 0) n)) = proj x2 y (i 0) from
    funext fun n => proj_ref1 x2 y (i 0) n] at h2
  exact congrFun (h1.of_comp.unique h2) n

end Cert.KernelIdeal.Own

end
-- ==== Proof.Own.Value.lean ====
/- The two programs end with one number: the kernel's total after its last point is the reference's mean. -/
module

public import proofs.«01_k».proof.Proof.Own.Read

@[expose] public section

noncomputable section

namespace Cert.KernelIdeal.Own

open Idealize.ShloMosaic Idealize.ShloMosaic.TcCoe
open Cert.KernelIdeal Cert.KernelIdeal.Gen

/-! ## One point's part -/

/-- The places of a half, in the network's order. -/
def cellEquiv : Fin 262144 ≃ S2048x128.Idx where
  toFun := cell
  invFun j := ⟨(j 1).val * 2048 + (j 0).val, by
    have h0 : (j 0).val < 2048 := (j 0).isLt
    have h1 : (j 1).val < 128 := (j 1).isLt
    omega⟩
  left_inv n := Fin.ext (by
    show n.val / 2048 * 2048 + n.val % 2048 = n.val
    omega)
  right_inv j := by
    have h0 : (j 0).val < 2048 := (j 0).isLt
    funext a
    apply Fin.ext
    fin_cases a
    · show ((j 1).val * 2048 + (j 0).val) % 2048 = (j 0).val
      omega
    · show ((j 1).val * 2048 + (j 0).val) / 2048 = (j 1).val
      omega

theorem ld_top (s : Scr Ideal) (n : Fin 262144) : (View.ld s rectTop : Vec Ideal S2048x128 .f32) (cell n) = half 0 s n := by
  unfold half
  apply View.ld_unit_apply_of
  intro a
  fin_cases a
  · show 0 * 2048 + n.val % 2048 = 0 + n.val % 2048
    omega
  · exact (Nat.zero_add _).symm

theorem ld_bot (s : Scr Ideal) (n : Fin 262144) : (View.ld s rectBot : Vec Ideal S2048x128 .f32) (cell n) = half 1 s n := by
  unfold half
  apply View.ld_unit_apply_of
  intro a
  fin_cases a
  · show 1 * 2048 + n.val % 2048 = 2048 + n.val % 2048
    omega
  · exact (Nat.zero_add _).symm

/-- The squared distance of two sorted projections. -/
def part (s : Scr Ideal) : EReal := ∑ n : Fin 262144, (half 0 s n - half 1 s n) * (half 0 s n - half 1 s n)

theorem sum_cells (v : FVec Ideal S2048x128 .f32) :
    (∑ i : S1x2048x128.Idx, shapeCast S1x2048x128 v shapeCasts_S2048x128_S1x2048x128 i) = ∑ n : Fin 262144, v (cell n) := by
  refine (Equiv.sum_comp (Shape.reshapeEquiv shapeCasts_S2048x128_S1x2048x128) v).trans ?_
  exact (Equiv.sum_comp cellEquiv v).symm

theorem pay493_apply (w : BitVec 32) (top bot : Vec Ideal S2048x128 .f32) (prev : EReal) :
    k0_pay493 (F := Ideal) w top bot prev
      = Scalar.select (Scalar.cmpi .eq w 0#32) (0 : EReal) prev + ∑ n : Fin 262144, (top (cell n) - bot (cell n)) * (top (cell n) - bot (cell n)) := by
  unfold k0_pay493
  dsimp only
  show Scalar.select (Scalar.cmpi .eq w 0#32) (Ideal.ofBits .f32 0x00000000#32) prev + _ = _
  rw [Ideal.ofBits_zero_f32]
  refine congrArg (Scalar.select (Scalar.cmpi .eq w 0#32) (0 : EReal) prev + ·) ?_
  refine (Ideal.multiReduction_add_total _ 0x00000000#32 reduces_S1x2048x128_S1 (by decide) (.inl rfl) rfl _).trans ?_
  exact sum_cells (mulf (F := Ideal) (φ := .f32) (subf top bot) (subf top bot))

theorem pay493_eq (w : BitVec 32) (s : Scr Ideal) (prev : EReal) :
    k0_pay493 (F := Ideal) w (View.ld s rectTop) (View.ld s rectBot) prev
      = Scalar.select (Scalar.cmpi .eq w 0#32) (0 : EReal) prev + part s := by
  refine (pay493_apply w _ _ prev).trans (congrArg (Scalar.select (Scalar.cmpi .eq w 0#32) (0 : EReal) prev + ·) ?_)
  unfold part
  refine Finset.sum_congr rfl fun n _ => ?_
  rw [← ld_top, ← ld_bot]

/-! ## The total -/

variable (m : (ℓ : Loc nD τ sig) → Buf (Elt Ideal) ℓ)

/-- The part of point `t`. -/
def partAt (c : Dev nD) (t : ℕ) : EReal := if h : t < cfg0.N then part (scrAt m c ⟨t, h⟩) else 0

theorem partAt_of (c : Dev nD) (t : ℕ) (h : t < cfg0.N) : partAt m c t = part (scrAt m c ⟨t, h⟩) := dif_pos h

theorem word_ne (a b : ℕ) (ha : a < 128) (hb : b < 128) (h : a ≠ b) : Scalar.cmpi .eq (BitVec.ofNat 32 a) (BitVec.ofNat 32 b) = 0#1 := by
  have e : BitVec.ofNat 32 a ≠ BitVec.ofNat 32 b := fun he => h (by
    have := congrArg BitVec.toNat he
    rwa [BitVec.toNat_ofNat, BitVec.toNat_ofNat, Nat.mod_eq_of_lt (by omega), Nat.mod_eq_of_lt (by omega)] at this)
  show BitVec.ofBool (decide (BitVec.ofNat 32 a = BitVec.ofNat 32 b)) = 0#1
  rw [decide_eq_false e]
  rfl

theorem totOf_eq (c : Dev nD) (t : ℕ) (h : t < cfg0.N) (prev : EReal) :
    totOf (grid0.coords ⟨t, h⟩) (scrAt m c ⟨t, h⟩) prev
      = Scalar.select (Scalar.cmpi .eq (BitVec.ofNat 32 t) 127#32)
          (Ideal.div (Scalar.select (Scalar.cmpi .eq (BitVec.ofNat 32 t) 0#32) (0 : EReal) prev + partAt m c t) (Ideal.ofBits .f32 0x4C000000#32))
          (Scalar.select (Scalar.cmpi .eq (BitVec.ofNat 32 t) 0#32) (0 : EReal) prev + partAt m c t) := by
  unfold totOf k0_pay1
  rw [coords_val, pay493_eq, partAt_of m c t h]
  rfl

/-- Before the last point the total is the sum of the parts so far. -/
theorem accAt_eq (c : Dev nD) : (n : ℕ) → (h : n < cfg0.N) → n < 127 → (accAt m c n h : EReal) = ∑ t ∈ Finset.range (n + 1), partAt m c t
  | 0, h, _ => by
    rw [accAt, totOf_eq, word_ne 0 127 (by decide) (by decide) (by decide)]
    show (0 : EReal) + partAt m c 0 = _
    rw [zero_add, Finset.sum_range_one]
  | n + 1, h, hn => by
    rw [accAt, totOf_eq, word_ne (n + 1) 127 (by omega) (by decide) (by omega), word_ne (n + 1) 0 (by omega) (by decide) (by omega)]
    show accAt m c n _ + partAt m c (n + 1) = _
    rw [accAt_eq c n _ (by omega), Finset.sum_range_succ _ (n + 1)]

theorem accAt_succ (c : Dev nD) (n : ℕ) (h : n + 1 < cfg0.N) :
    accAt m c (n + 1) h = totOf (grid0.coords ⟨n + 1, h⟩) (scrAt m c ⟨n + 1, h⟩) (accAt m c n (Nat.lt_of_succ_lt h)) := by
  rw [accAt]

theorem accAt_last (c : Dev nD) (n : ℕ) (h : n < cfg0.N) (hn : n = 127) :
    (accAt m c n h : EReal) = Ideal.div (∑ t ∈ Finset.range (n + 1), partAt m c t) (Ideal.ofBits .f32 0x4C000000#32) := by
  obtain ⟨k, rfl⟩ : ∃ k, n = k + 1 := ⟨126, hn⟩
  have hw : Scalar.cmpi .eq (BitVec.ofNat 32 (k + 1)) 127#32 = 1#1 := by rw [hn]; rfl
  rw [accAt_succ m c k h, totOf_eq, word_ne (k + 1) 0 (by omega) (by decide) (by omega), hw, accAt_eq m c k _ (by omega), Finset.sum_range_succ _ (k + 1)]
  rfl

/-- After the last it is their mean. -/
theorem total_eq (c : Dev nD) :
    (total m c : EReal) = Ideal.div (∑ t ∈ Finset.range 128, partAt m c t) (Ideal.ofBits .f32 0x4C000000#32) :=
  accAt_last m c 127 tLast.isLt rfl

/-- One point's part is one row's sum in the reference. -/
theorem partAt_ref (c : Dev nD) (p : Fin 128) :
    partAt m c p.val = ∑ n : Fin 262144, Cert.ReferenceIdeal.Read.val_main_v17 (F := Ideal) (m ((c.tc : Thread nD τ).loc main_arg0))
      (m ((c.tc : Thread nD τ).loc main_arg1)) (m ((c.tc : Thread nD τ).loc main_arg2)) (ix2 p n) := by
  have hp : p.val < cfg0.N := by show p.val < grid0.N; rw [N_0]; exact p.isLt
  have hi : grid0.coords ⟨p.val, hp⟩ 0 = p := Fin.ext (coords_val ⟨p.val, hp⟩)
  rw [partAt_of m c p.val hp]
  unfold part scrAt
  refine Finset.sum_congr rfl fun n _ => ?_
  rw [iblk_0, iblk_1, iblk_2, sorted_top, sorted_bot, hi]
  rfl

/-- The kernel's result is the reference's. -/
theorem total_ref (c : Dev nD) :
    (fun _ => total m c : Vec Ideal S_ .f32) = Cert.ReferenceIdeal.Read.val_main_v19 (F := Ideal) (m ((c.tc : Thread nD τ).loc main_arg0))
      (m ((c.tc : Thread nD τ).loc main_arg1)) (m ((c.tc : Thread nD τ).loc main_arg2)) := by
  funext j
  rw [Cert.ReferenceIdeal.Read.val_main_v19_apply, Cert.ReferenceIdeal.Read.val_main_v18_apply, Cert.ReferenceIdeal.Read.val_main_cst_0_apply,
    Cert.ReferenceIdeal.Read.val_main_cst_1_apply]
  refine (total_eq m c).trans ?_
  show _ = Ideal.div (Ideal.ofBits .f32 0x00000000#32 + _) (Ideal.ofBits .f32 0x4C000000#32)
  rw [Ideal.ofBits_zero_f32, zero_add]
  refine congrArg (Ideal.div · (Ideal.ofBits .f32 0x4C000000#32)) ?_
  rw [Finset.sum_range]
  refine (Finset.sum_congr rfl fun p _ => partAt_ref m c p).trans ?_
  exact (ValueIdx.sum_idx2 (n0 := 128) (n1 := 262144) _).symm

end Cert.KernelIdeal.Own

end
-- ==== Proof.Own.Same.lean ====
/- The program `Kernel` and its idealization `KernelIdeal` are one text (the ideal pass rewrote nothing), so
   the frame proved of the one at any float type is the frame of the other. -/
module

public import proofs.«01_k».proof.Kernel
public import proofs.«01_k».proof.Proof.Gen.Kernel
public import proofs.«01_k».proof.Proof.Own.Launch

@[expose] public section

namespace Cert.Kernel.Own

open Idealize.ShloMosaic Idealize.SL.Sem

variable {F : FTy → Type} [FloatOps F]

local instance : Cert.Kernel.Facts := Cert.Kernel.Gen.facts
local instance : Cert.KernelIdeal.Facts := Cert.KernelIdeal.Gen.facts

/-- The kernels' bodies are the same. -/
theorem body_same : Cert.Kernel.cc0__body (F := F) = Cert.KernelIdeal.cc0__body (F := F) := rfl

/-- So the tables of kernels are. -/
theorem defs₀_same : Cert.Kernel.defs₀ (F := F) = Cert.KernelIdeal.defs₀ (F := F) := by
  unfold Cert.Kernel.defs₀ Cert.KernelIdeal.defs₀
  refine congrArg _ (funext fun l => ?_)
  match l with
  | 0 => rfl
  | ⟨_ + 1, h⟩ => exact absurd h (Nat.not_lt.2 (Nat.le_add_left _ _))

/-- So the tables of bodies are. -/
theorem defs_same : Cert.Kernel.defs (F := F) = Cert.KernelIdeal.defs (F := F) :=
  congrArg (Pipeline.defs Cert.KernelIdeal.pcfgs) defs₀_same

/-- So the steps are. -/
theorem main_same : Cert.Kernel.main (F := F) = Cert.KernelIdeal.main (F := F) := rfl

/-- `Kernel` leaves its arguments as they were, and every semaphore at zero. -/
theorem frame (m : (ℓ : Loc nD τ sig) → Buf (Elt F) ℓ) (ρ : Dev nD → PrngReg) :
    θ_run (Cert.Kernel.defs (F := F)) (onTc (τ := τ) (Cert.Kernel.main (F := F))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) := by
  have h := Cert.KernelIdeal.Own.frame (F := F) m ρ
  rw [← defs_same, ← main_same] at h
  exact h

end Cert.Kernel.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Own.Value
public import proofs.«01_k».proof.Proof.Own.Same
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference leaves its arguments as they were, and has no semaphores. -/
theorem frame_reference {F : FTy → Type} [FloatOps F] (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩
      (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2))
        ∧ r.2.sem = fun _ => 0) :=
  (θ_run _ _ _).mono (fun r h => ⟨fun c => (h c).2, sem_eq_zero_of_no_sems (by decide) r.2⟩) (Cert.ReferenceIdeal.Value.run m ρ)

/-- The kernel's result is the reference's, whatever the inputs. -/
theorem value : Cert.algebraic_KernelIdeal_ReferenceIdeal := by
  intro m g m' g' _ hargs
  refine ⟨fun c => (fun _ => Cert.KernelIdeal.Own.total m c), ?_, ?_⟩
  · exact (θ_run _ _ _).mono (fun r h c => ⟨h.1 c, h.2.1 c⟩)
      (θ_run_and (Cert.KernelIdeal.Own.run_value m g) (Cert.KernelIdeal.Own.frame m g))
  · refine (θ_run _ _ _).mono (fun r h c => ⟨?_, (h c).2⟩) (Cert.ReferenceIdeal.Value.run m' g')
    refine (h c).1.trans ((Cert.ReferenceIdeal.Read.val_main_v19_eq _ _ _).trans ?_)
    obtain ⟨h0, h1, h2⟩ := hargs c
    rw [h0, h1, h2]
    exact (Cert.KernelIdeal.Own.total_ref m c).symm

theorem claim : Cert.Claim := ⟨Cert.Kernel.Gen.facts, Cert.KernelIdeal.Gen.facts, Cert.ReferenceIdeal.Gen.facts,
  fun m ρ _ => Cert.Kernel.Own.frame m ρ, fun m ρ _ => Cert.KernelIdeal.Own.frame m ρ, fun m ρ _ => frame_reference m ρ,
  trivial, value⟩

end Cert.Proof

end
